-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "eps_norm_sq" .f32 0x179ABE15#32 ((5316911940649 / 5316911983139663491615228241121378304 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x8192x128 : Shape := ⟨3, ![16, 8192, 128]⟩
abbrev S128x1x3x3 : Shape := ⟨4, ![128, 1, 3, 3]⟩
abbrev S128 : Shape := ⟨1, ![128]⟩
abbrev S64x128x1x1 : Shape := ⟨4, ![64, 128, 1, 1]⟩
abbrev S64 : Shape := ⟨1, ![64]⟩
abbrev S64x128 : Shape := ⟨2, ![64, 128]⟩
abbrev S16 : Shape := ⟨1, ![16]⟩
abbrev S16x128x8192 : Shape := ⟨3, ![16, 128, 8192]⟩
abbrev S16x128x8192x1 : Shape := ⟨4, ![16, 128, 8192, 1]⟩
abbrev S_ : Shape := ⟨0, ![]⟩
abbrev S16x8192x1 : Shape := ⟨3, ![16, 8192, 1]⟩
abbrev S16x1x8192x1 : Shape := ⟨4, ![16, 1, 8192, 1]⟩
abbrev S16x128x8194x3 : Shape := ⟨4, ![16, 128, 8194, 3]⟩
abbrev S128x1x1x1 : Shape := ⟨4, ![128, 1, 1, 1]⟩
abbrev S1x128x1x1 : Shape := ⟨4, ![1, 128, 1, 1]⟩
abbrev S64x16x8192x1 : Shape := ⟨4, ![64, 16, 8192, 1]⟩
abbrev S16x64x8192x1 : Shape := ⟨4, ![16, 64, 8192, 1]⟩
abbrev S1x64x1x1 : Shape := ⟨4, ![1, 64, 1, 1]⟩
abbrev S16x64x8192 : Shape := ⟨3, ![16, 64, 8192]⟩
abbrev S8192 : Shape := ⟨1, ![8192]⟩
abbrev S1x8192 : Shape := ⟨2, ![1, 8192]⟩
abbrev S16x1 : Shape := ⟨2, ![16, 1]⟩
abbrev S16x8192 : Shape := ⟨2, ![16, 8192]⟩
abbrev S16x1x8192 : Shape := ⟨3, ![16, 1, 8192]⟩
abbrev S128x1x3x1 : Shape := ⟨4, ![128, 1, 3, 1]⟩
abbrev S128x3 : Shape := ⟨2, ![128, 3]⟩

class Facts : Prop where
  transposes_S16x8192x128_S16x128x8192_0_2_1 : S16x8192x128.Transposes [0, 2, 1] S16x128x8192
  bcast_S16x128x8192_S16x128x8192x1_0_1_2 : S16x128x8192.BroadcastsInDim S16x128x8192x1 (![0, 1, 2] : Fin 3 → Fin S16x128x8192x1.rank)
  reducesTo_S16x128x8192x1_S16x8192x1_d1 : S16x128x8192x1.ReducesTo [1] S16x8192x1
  h_S_ : 0 < S_.numel
  bcast_S16x8192x1_S16x1x8192x1_0_2_3 : S16x8192x1.BroadcastsInDim S16x1x8192x1 (![0, 2, 3] : Fin 3 → Fin S16x1x8192x1.rank)
  bcast_S_S16x1x8192x1 : S_.BroadcastsInDim S16x1x8192x1 (![] : Fin 0 → Fin S16x1x8192x1.rank)
  bcast_S16x1x8192x1_S16x128x8192x1_0_1_2_3 : S16x1x8192x1.BroadcastsInDim S16x128x8192x1 (![0, 1, 2, 3] : Fin 4 → Fin S16x128x8192x1.rank)
  pads_S16x128x8192x1_S16x128x8194x3_000_000_110_110 : S16x128x8192x1.Pads (![0, 0, 1, 1] : Fin 4 → Nat) ![0, 0, 1, 1] ![0, 0, 0, 0] S16x128x8194x3
  bcast_S_S16x128x8192x1 : S_.BroadcastsInDim S16x128x8192x1 (![] : Fin 0 → Fin S16x128x8192x1.rank)
  slices_S16x128x8194x3_S16x128x8192x1_0_0_0_0 : S16x128x8194x3.Slices ![0, 0, 0, 0] S16x128x8192x1
  slices_S128x1x3x3_S128x1x1x1_0_0_0_0 : S128x1x3x3.Slices ![0, 0, 0, 0] S128x1x1x1
  shapeCasts_S128x1x1x1_S128 : S128x1x1x1.ShapeCasts S128
  bcast_S128_S1x128x1x1_1 : S128.BroadcastsInDim S1x128x1x1 (![1] : Fin 1 → Fin S1x128x1x1.rank)
  bcast_S1x128x1x1_S16x128x8192x1_0_1_2_3 : S1x128x1x1.BroadcastsInDim S16x128x8192x1 (![0, 1, 2, 3] : Fin 4 → Fin S16x128x8192x1.rank)
  slices_S16x128x8194x3_S16x128x8192x1_0_0_0_1 : S16x128x8194x3.Slices ![0, 0, 0, 1] S16x128x8192x1
  slices_S128x1x3x3_S128x1x1x1_0_0_0_1 : S128x1x3x3.Slices ![0, 0, 0, 1] S128x1x1x1
  slices_S16x128x8194x3_S16x128x8192x1_0_0_0_2 : S16x128x8194x3.Slices ![0, 0, 0, 2] S16x128x8192x1
  slices_S128x1x3x3_S128x1x1x1_0_0_0_2 : S128x1x3x3.Slices ![0, 0, 0, 2] S128x1x1x1
  slices_S16x128x8194x3_S16x128x8192x1_0_0_1_0 : S16x128x8194x3.Slices ![0, 0, 1, 0] S16x128x8192x1
  slices_S128x1x3x3_S128x1x1x1_0_0_1_0 : S128x1x3x3.Slices ![0, 0, 1, 0] S128x1x1x1
  slices_S16x128x8194x3_S16x128x8192x1_0_0_1_1 : S16x128x8194x3.Slices ![0, 0, 1, 1] S16x128x8192x1
  slices_S128x1x3x3_S128x1x1x1_0_0_1_1 : S128x1x3x3.Slices ![0, 0, 1, 1] S128x1x1x1
  slices_S16x128x8194x3_S16x128x8192x1_0_0_1_2 : S16x128x8194x3.Slices ![0, 0, 1, 2] S16x128x8192x1
  slices_S128x1x3x3_S128x1x1x1_0_0_1_2 : S128x1x3x3.Slices ![0, 0, 1, 2] S128x1x1x1
  slices_S16x128x8194x3_S16x128x8192x1_0_0_2_0 : S16x128x8194x3.Slices ![0, 0, 2, 0] S16x128x8192x1
  slices_S128x1x3x3_S128x1x1x1_0_0_2_0 : S128x1x3x3.Slices ![0, 0, 2, 0] S128x1x1x1
  slices_S16x128x8194x3_S16x128x8192x1_0_0_2_1 : S16x128x8194x3.Slices ![0, 0, 2, 1] S16x128x8192x1
  slices_S128x1x3x3_S128x1x1x1_0_0_2_1 : S128x1x3x3.Slices ![0, 0, 2, 1] S128x1x1x1
  slices_S16x128x8194x3_S16x128x8192x1_0_0_2_2 : S16x128x8194x3.Slices ![0, 0, 2, 2] S16x128x8192x1
  slices_S128x1x3x3_S128x1x1x1_0_0_2_2 : S128x1x3x3.Slices ![0, 0, 2, 2] S128x1x1x1
  bcast_S_S128 : S_.BroadcastsInDim S128 (![] : Fin 0 → Fin S128.rank)
  shapeCasts_S64x128x1x1_S64x128 : S64x128x1x1.ShapeCasts S64x128
  transposes_S64x16x8192x1_S16x64x8192x1_1_0_2_3 : S64x16x8192x1.Transposes [1, 0, 2, 3] S16x64x8192x1
  bcast_S64_S1x64x1x1_1 : S64.BroadcastsInDim S1x64x1x1 (![1] : Fin 1 → Fin S1x64x1x1.rank)
  bcast_S1x64x1x1_S16x64x8192x1_0_1_2_3 : S1x64x1x1.BroadcastsInDim S16x64x8192x1 (![0, 1, 2, 3] : Fin 4 → Fin S16x64x8192x1.rank)
  bcast_S_S64 : S_.BroadcastsInDim S64 (![] : Fin 0 → Fin S64.rank)
  bcast_S_S16x64x8192x1 : S_.BroadcastsInDim S16x64x8192x1 (![] : Fin 0 → Fin S16x64x8192x1.rank)
  shapeCasts_S16x64x8192x1_S16x64x8192 : S16x64x8192x1.ShapeCasts S16x64x8192
  bcast_S8192_S1x8192_1 : S8192.BroadcastsInDim S1x8192 (![1] : Fin 1 → Fin S1x8192.rank)
  bcast_S16_S16x1_0 : S16.BroadcastsInDim S16x1 (![0] : Fin 1 → Fin S16x1.rank)
  bcast_S1x8192_S16x8192_0_1 : S1x8192.BroadcastsInDim S16x8192 (![0, 1] : Fin 2 → Fin S16x8192.rank)
  bcast_S16x1_S16x8192_0_1 : S16x1.BroadcastsInDim S16x8192 (![0, 1] : Fin 2 → Fin S16x8192.rank)
  bcast_S16x8192_S16x1x8192_0_2 : S16x8192.BroadcastsInDim S16x1x8192 (![0, 2] : Fin 2 → Fin S16x1x8192.rank)
  bcast_S16x1x8192_S16x64x8192_0_1_2 : S16x1x8192.BroadcastsInDim S16x64x8192 (![0, 1, 2] : Fin 3 → Fin S16x64x8192.rank)
  bcast_S_S16x64x8192 : S_.BroadcastsInDim S16x64x8192 (![] : Fin 0 → Fin S16x64x8192.rank)
  slices_S128x1x3x3_S128x1x3x1_0_0_0_1 : S128x1x3x3.Slices ![0, 0, 0, 1] S128x1x3x1
  shapeCasts_S128x1x3x1_S128x3 : S128x1x3x1.ShapeCasts S128x3
  bcast_S_S128x3 : S_.BroadcastsInDim S128x3 (![] : Fin 0 → Fin S128x3.rank)
  dot_S64x128_S16x128x8192x1_S64x16x8192x1_1_1_0_023_n_n_wf : DotDims.WF S64x128 S16x128x8192x1 S64x16x8192x1 [1] [1] [0] [0, 2, 3] [] []

variable [Facts]

def dot_S64x128_S16x128x8192x1_S64x16x8192x1_1_1_0_023_n_n : DotDims S64x128 S16x128x8192x1 S64x16x8192x1 where
  lhsContracting := [1]
  rhsContracting := [1]
  lhsNonContracting := [0]
  rhsNonContracting := [0, 2, 3]
  lhsBatch := []
  rhsBatch := []
  wf := dot_S64x128_S16x128x8192x1_S64x16x8192x1_1_1_0_023_n_n_wf
def fn_norm {F : FTy → Type} [FloatOps F] (arg0 : FVec F S16x128x8192x1 .f32) : FVec F S16x1x8192x1 .f32 :=
  let v0 : FVec F S16x128x8192x1 .f32 := mulf arg0 arg0
  let cst : FVec F S_ .f32 := constant S_ .f32 0x00000000#32
  let v1 : FVec F S16x8192x1 .f32 := (fun x v => Host.reduceAdd x v reducesTo_S16x128x8192x1_S16x8192x1_d1 h_S_) v0 cst
  let v2 : FVec F S16x1x8192x1 .f32 := broadcastInDim S16x1x8192x1 ![0, 2, 3] bcast_S16x8192x1_S16x1x8192x1_0_2_3 v1
  let v3 : FVec F S16x1x8192x1 .f32 := Host.sqrt v2
  v3

def fn_pad {F : FTy → Type} [FloatOps F] (arg0 : FVec F S16x128x8192x1 .f32) (arg1 : IVec S_ 32) : FVec F S16x128x8194x3 .f32 :=
  let v0 : FVec F S_ .f32 := sitofp .f32 arg1
  let v1 : FVec F S16x128x8194x3 .f32 := (fun x v => pad S16x128x8194x3 ![0, 0, 1, 1] ![0, 0, 1, 1] ![0, 0, 0, 0] x v pads_S16x128x8192x1_S16x128x8194x3_000_000_110_110 h_S_) arg0 v0
  v1

def fn_relu {F : FTy → Type} [FloatOps F] (arg0 : FVec F S16x128x8192x1 .f32) : FVec F S16x128x8192x1 .f32 :=
  let cst : FVec F S_ .f32 := constant S_ .f32 0x00000000#32
  let v0 : FVec F S16x128x8192x1 .f32 := broadcastInDim S16x128x8192x1 ![] bcast_S_S16x128x8192x1 cst
  let v1 : FVec F S16x128x8192x1 .f32 := maximumf arg0 v0
  v1

def fn_relu_0 {F : FTy → Type} [FloatOps F] (arg0 : FVec F S16x64x8192x1 .f32) : FVec F S16x64x8192x1 .f32 :=
  let cst : FVec F S_ .f32 := constant S_ .f32 0x00000000#32
  let v0 : FVec F S16x64x8192x1 .f32 := broadcastInDim S16x64x8192x1 ![] bcast_S_S16x64x8192x1 cst
  let v1 : FVec F S16x64x8192x1 .f32 := maximumf arg0 v0
  v1

def fn_where {F : FTy → Type} [FloatOps F] (arg0 : IVec S16x1x8192 1) (arg1 : FVec F S16x64x8192 .f32) (arg2 : FVec F S_ .f32) : FVec F S16x64x8192 .f32 :=
  let v0 : FVec F S_ .f32 := id arg2
  let v1 : IVec S16x64x8192 1 := broadcastInDim S16x64x8192 ![0, 1, 2] bcast_S16x1x8192_S16x64x8192_0_1_2 arg0
  let v2 : FVec F S16x64x8192 .f32 := broadcastInDim S16x64x8192 ![] bcast_S_S16x64x8192 v0
  let v3 : FVec F S16x64x8192 .f32 := select v1 arg1 v2
  v3

def fn_part6 {F : FTy → Type} [FloatOps F] (main_arg5 : FVec F S128 .f32) (main_arg8 : FVec F S64 .f32) (main_arg11 : FVec F S64 .f32) (main_v122 : IVec S16x64x8192 1) (main_v127 : IVec S128x3 1) (main_v130 : IVec S128 1) (main_v131 : FVec F S128 .f32) : IVec S16x64x8192 1 × IVec S128x3 1 × IVec S128 1 × IVec S64 1 :=
  let main_v132 : FVec F S128 .f32 := addf main_arg5 main_v131
  let main_cst_10 : FVec F S_ .f32 := constant S_ .f32 0x00000000#32
  let main_v133 : FVec F S128 .f32 := broadcastInDim S128 ![] bcast_S_S128 main_cst_10
  let main_v134 : IVec S128 1 := cmpf .ogt main_v132 main_v133
  let main_v135 : IVec S128 1 := andi main_v130 main_v134
  let main_v136 : FVec F S64 .f32 := Host.absf main_arg8
  let main_cst_11 : FVec F S_ .f32 := constant S_ .f32 0x7F800000#32
  let main_v137 : FVec F S64 .f32 := broadcastInDim S64 ![] bcast_S_S64 main_cst_11
  let main_v138 : IVec S64 1 := cmpf .olt main_v136 main_v137
  let main_cst_12 : FVec F S_ .f32 := constant S_ .f32 0x3727C5AC#32
  let main_v139 : FVec F S64 .f32 := broadcastInDim S64 ![] bcast_S_S64 main_cst_12
  let main_v140 : FVec F S64 .f32 := addf main_arg11 main_v139
  let main_cst_13 : FVec F S_ .f32 := constant S_ .f32 0x00000000#32
  let main_v141 : FVec F S64 .f32 := broadcastInDim S64 ![] bcast_S_S64 main_cst_13
  let main_v142 : IVec S64 1 := cmpf .ogt main_v140 main_v141
  let main_v143 : IVec S64 1 := andi main_v138 main_v142
  (main_v122, main_v127, main_v135, main_v143)

def fn_part5 {F : FTy → Type} [FloatOps F] (main_arg1 : FVec F S128x1x3x3 .f32) (main_arg2 : FVec F S128 .f32) (main_arg5 : FVec F S128 .f32) (main_arg8 : FVec F S64 .f32) (main_arg11 : FVec F S64 .f32) (main_arg13 : IVec S16 32) (main_v112 : FVec F S16x64x8192 .f32) : IVec S16x64x8192 1 × IVec S128x3 1 × IVec S128 1 × IVec S64 1 :=
  let main_v113 : IVec S8192 32 := iotaInDim S8192 32 0
  let main_v114 : IVec S1x8192 32 := broadcastInDim S1x8192 ![1] bcast_S8192_S1x8192_1 main_v113
  let main_v115 : IVec S16x1 32 := broadcastInDim S16x1 ![0] bcast_S16_S16x1_0 main_arg13
  let main_v116 : IVec S16x8192 32 := broadcastInDim S16x8192 ![0, 1] bcast_S1x8192_S16x8192_0_1 main_v114
  let main_v117 : IVec S16x8192 32 := broadcastInDim S16x8192 ![0, 1] bcast_S16x1_S16x8192_0_1 main_v115
  let main_v118 : IVec S16x8192 1 := cmpi .slt main_v116 main_v117
  let main_v119 : IVec S16x1x8192 1 := broadcastInDim S16x1x8192 ![0, 2] bcast_S16x8192_S16x1x8192_0_2 main_v118
  let main_cst_5 : FVec F S_ .f32 := constant S_ .f32 0x00000000#32
  let main_v120 : FVec F S16x64x8192 .f32 := fn_where (F := F) main_v119 main_v112 main_cst_5
  let main_cst_6 : FVec F S_ .f32 := constant S_ .f32 0x42A00000#32
  let main_v121 : FVec F S16x64x8192 .f32 := broadcastInDim S16x64x8192 ![] bcast_S_S16x64x8192 main_cst_6
  let main_v122 : IVec S16x64x8192 1 := cmpf .ole main_v120 main_v121
  let main_v123 : FVec F S128x1x3x1 .f32 := (extractStridedSlice S128x1x3x1 ![0, 0, 0, 1] · slices_S128x1x3x3_S128x1x3x1_0_0_0_1) main_arg1
  let main_v124 : FVec F S128x3 .f32 := shapeCast S128x3 main_v123 shapeCasts_S128x1x3x1_S128x3
  let main_v125 : FVec F S128x3 .f32 := Host.absf main_v124
  let main_cst_7 : FVec F S_ .f32 := constant S_ .f32 0x7F800000#32
  let main_v126 : FVec F S128x3 .f32 := broadcastInDim S128x3 ![] bcast_S_S128x3 main_cst_7
  let main_v127 : IVec S128x3 1 := cmpf .olt main_v125 main_v126
  let main_v128 : FVec F S128 .f32 := Host.absf main_arg2
  let main_cst_8 : FVec F S_ .f32 := constant S_ .f32 0x7F800000#32
  let main_v129 : FVec F S128 .f32 := broadcastInDim S128 ![] bcast_S_S128 main_cst_8
  let main_v130 : IVec S128 1 := cmpf .olt main_v128 main_v129
  let main_cst_9 : FVec F S_ .f32 := constant S_ .f32 0x3727C5AC#32
  let main_v131 : FVec F S128 .f32 := broadcastInDim S128 ![] bcast_S_S128 main_cst_9
  fn_part6 (F := F) main_arg5 main_arg8 main_arg11 main_v122 main_v127 main_v130 main_v131

def fn_part4 {F : FTy → Type} [FloatOps F] (main_arg1 : FVec F S128x1x3x3 .f32) (main_arg2 : FVec F S128 .f32) (main_arg5 : FVec F S128 .f32) (main_arg7 : FVec F S64 .f32) (main_arg8 : FVec F S64 .f32) (main_arg9 : FVec F S64 .f32) (main_arg10 : FVec F S64 .f32) (main_arg11 : FVec F S64 .f32) (main_arg13 : IVec S16 32) (main_v90 : FVec F S64x16x8192x1 .f32) : IVec S16x64x8192 1 × IVec S128x3 1 × IVec S128 1 × IVec S64 1 :=
  let main_v91 : FVec F S16x64x8192x1 .f32 := (transpose S16x64x8192x1 [1, 0, 2, 3] · transposes_S64x16x8192x1_S16x64x8192x1_1_0_2_3) main_v90
  let main_v92 : FVec F S1x64x1x1 .f32 := broadcastInDim S1x64x1x1 ![1] bcast_S64_S1x64x1x1_1 main_arg7
  let main_v93 : FVec F S16x64x8192x1 .f32 := broadcastInDim S16x64x8192x1 ![0, 1, 2, 3] bcast_S1x64x1x1_S16x64x8192x1_0_1_2_3 main_v92
  let main_v94 : FVec F S16x64x8192x1 .f32 := addf main_v91 main_v93
  let main_cst_3 : FVec F S_ .f32 := constant S_ .f32 0x3727C5AC#32
  let main_v95 : FVec F S64 .f32 := broadcastInDim S64 ![] bcast_S_S64 main_cst_3
  let main_v96 : FVec F S64 .f32 := addf main_arg11 main_v95
  let main_v97 : FVec F S64 .f32 := Host.sqrt main_v96
  let main_v98 : FVec F S64 .f32 := Host.divf main_arg8 main_v97
  let main_v99 : FVec F S1x64x1x1 .f32 := broadcastInDim S1x64x1x1 ![1] bcast_S64_S1x64x1x1_1 main_v98
  let main_v100 : FVec F S16x64x8192x1 .f32 := broadcastInDim S16x64x8192x1 ![0, 1, 2, 3] bcast_S1x64x1x1_S16x64x8192x1_0_1_2_3 main_v99
  let main_v101 : FVec F S16x64x8192x1 .f32 := mulf main_v94 main_v100
  let main_v102 : FVec F S64 .f32 := mulf main_arg10 main_arg8
  let main_cst_4 : FVec F S_ .f32 := constant S_ .f32 0x3727C5AC#32
  let main_v103 : FVec F S64 .f32 := broadcastInDim S64 ![] bcast_S_S64 main_cst_4
  let main_v104 : FVec F S64 .f32 := addf main_arg11 main_v103
  let main_v105 : FVec F S64 .f32 := Host.sqrt main_v104
  let main_v106 : FVec F S64 .f32 := Host.divf main_v102 main_v105
  let main_v107 : FVec F S64 .f32 := subf main_arg9 main_v106
  let main_v108 : FVec F S1x64x1x1 .f32 := broadcastInDim S1x64x1x1 ![1] bcast_S64_S1x64x1x1_1 main_v107
  let main_v109 : FVec F S16x64x8192x1 .f32 := broadcastInDim S16x64x8192x1 ![0, 1, 2, 3] bcast_S1x64x1x1_S16x64x8192x1_0_1_2_3 main_v108
  let main_v110 : FVec F S16x64x8192x1 .f32 := addf main_v101 main_v109
  let main_v111 : FVec F S16x64x8192x1 .f32 := fn_relu_0 (F := F) main_v110
  let main_v112 : FVec F S16x64x8192 .f32 := shapeCast S16x64x8192 main_v111 shapeCasts_S16x64x8192x1_S16x64x8192
  fn_part5 (F := F) main_arg1 main_arg2 main_arg5 main_arg8 main_arg11 main_arg13 main_v112

def fn_part3 {F : FTy → Type} [FloatOps F] (main_arg1 : FVec F S128x1x3x3 .f32) (main_arg2 : FVec F S128 .f32) (main_arg3 : FVec F S128 .f32) (main_arg4 : FVec F S128 .f32) (main_arg5 : FVec F S128 .f32) (main_arg6 : FVec F S64x128x1x1 .f32) (main_arg7 : FVec F S64 .f32) (main_arg8 : FVec F S64 .f32) (main_arg9 : FVec F S64 .f32) (main_arg10 : FVec F S64 .f32) (main_arg11 : FVec F S64 .f32) (main_arg13 : IVec S16 32) (main_v64 : FVec F S16x128x8192x1 .f32) (main_v65 : FVec F S16x128x8192x1 .f32) (main_v68 : FVec F S1x128x1x1 .f32) : IVec S16x64x8192 1 × IVec S128x3 1 × IVec S128 1 × IVec S64 1 :=
  let main_v69 : FVec F S16x128x8192x1 .f32 := broadcastInDim S16x128x8192x1 ![0, 1, 2, 3] bcast_S1x128x1x1_S16x128x8192x1_0_1_2_3 main_v68
  let main_v70 : FVec F S16x128x8192x1 .f32 := mulf main_v65 main_v69
  let main_v71 : FVec F S16x128x8192x1 .f32 := addf main_v64 main_v70
  let main_cst_1 : FVec F S_ .f32 := constant S_ .f32 0x3727C5AC#32
  let main_v72 : FVec F S128 .f32 := broadcastInDim S128 ![] bcast_S_S128 main_cst_1
  let main_v73 : FVec F S128 .f32 := addf main_arg5 main_v72
  let main_v74 : FVec F S128 .f32 := Host.sqrt main_v73
  let main_v75 : FVec F S128 .f32 := Host.divf main_arg2 main_v74
  let main_v76 : FVec F S1x128x1x1 .f32 := broadcastInDim S1x128x1x1 ![1] bcast_S128_S1x128x1x1_1 main_v75
  let main_v77 : FVec F S16x128x8192x1 .f32 := broadcastInDim S16x128x8192x1 ![0, 1, 2, 3] bcast_S1x128x1x1_S16x128x8192x1_0_1_2_3 main_v76
  let main_v78 : FVec F S16x128x8192x1 .f32 := mulf main_v71 main_v77
  let main_v79 : FVec F S128 .f32 := mulf main_arg4 main_arg2
  let main_cst_2 : FVec F S_ .f32 := constant S_ .f32 0x3727C5AC#32
  let main_v80 : FVec F S128 .f32 := broadcastInDim S128 ![] bcast_S_S128 main_cst_2
  let main_v81 : FVec F S128 .f32 := addf main_arg5 main_v80
  let main_v82 : FVec F S128 .f32 := Host.sqrt main_v81
  let main_v83 : FVec F S128 .f32 := Host.divf main_v79 main_v82
  let main_v84 : FVec F S128 .f32 := subf main_arg3 main_v83
  let main_v85 : FVec F S1x128x1x1 .f32 := broadcastInDim S1x128x1x1 ![1] bcast_S128_S1x128x1x1_1 main_v84
  let main_v86 : FVec F S16x128x8192x1 .f32 := broadcastInDim S16x128x8192x1 ![0, 1, 2, 3] bcast_S1x128x1x1_S16x128x8192x1_0_1_2_3 main_v85
  let main_v87 : FVec F S16x128x8192x1 .f32 := addf main_v78 main_v86
  let main_v88 : FVec F S16x128x8192x1 .f32 := fn_relu (F := F) main_v87
  let main_v89 : FVec F S64x128 .f32 := shapeCast S64x128 main_arg6 shapeCasts_S64x128x1x1_S64x128
  let main_v90 : FVec F S64x16x8192x1 .f32 := (fun l r => Host.dotGeneral dot_S64x128_S16x128x8192x1_S64x16x8192x1_1_1_0_023_n_n none l r) main_v89 main_v88
  fn_part4 (F := F) main_arg1 main_arg2 main_arg5 main_arg7 main_arg8 main_arg9 main_arg10 main_arg11 main_arg13 main_v90

def fn_part2 {F : FTy → Type} [FloatOps F] (main_arg1 : FVec F S128x1x3x3 .f32) (main_arg2 : FVec F S128 .f32) (main_arg3 : FVec F S128 .f32) (main_arg4 : FVec F S128 .f32) (main_arg5 : FVec F S128 .f32) (main_arg6 : FVec F S64x128x1x1 .f32) (main_arg7 : FVec F S64 .f32) (main_arg8 : FVec F S64 .f32) (main_arg9 : FVec F S64 .f32) (main_arg10 : FVec F S64 .f32) (main_arg11 : FVec F S64 .f32) (main_arg13 : IVec S16 32) (main_v7 : FVec F S16x128x8194x3 .f32) (main_v43 : FVec F S16x128x8192x1 .f32) (main_v44 : FVec F S16x128x8192x1 .f32) : IVec S16x64x8192 1 × IVec S128x3 1 × IVec S128 1 × IVec S64 1 :=
  let main_v45 : FVec F S128x1x1x1 .f32 := (extractStridedSlice S128x1x1x1 ![0, 0, 1, 2] · slices_S128x1x3x3_S128x1x1x1_0_0_1_2) main_arg1
  let main_v46 : FVec F S128 .f32 := shapeCast S128 main_v45 shapeCasts_S128x1x1x1_S128
  let main_v47 : FVec F S1x128x1x1 .f32 := broadcastInDim S1x128x1x1 ![1] bcast_S128_S1x128x1x1_1 main_v46
  let main_v48 : FVec F S16x128x8192x1 .f32 := broadcastInDim S16x128x8192x1 ![0, 1, 2, 3] bcast_S1x128x1x1_S16x128x8192x1_0_1_2_3 main_v47
  let main_v49 : FVec F S16x128x8192x1 .f32 := mulf main_v44 main_v48
  let main_v50 : FVec F S16x128x8192x1 .f32 := addf main_v43 main_v49
  let main_v51 : FVec F S16x128x8192x1 .f32 := (extractStridedSlice S16x128x8192x1 ![0, 0, 2, 0] · slices_S16x128x8194x3_S16x128x8192x1_0_0_2_0) main_v7
  let main_v52 : FVec F S128x1x1x1 .f32 := (extractStridedSlice S128x1x1x1 ![0, 0, 2, 0] · slices_S128x1x3x3_S128x1x1x1_0_0_2_0) main_arg1
  let main_v53 : FVec F S128 .f32 := shapeCast S128 main_v52 shapeCasts_S128x1x1x1_S128
  let main_v54 : FVec F S1x128x1x1 .f32 := broadcastInDim S1x128x1x1 ![1] bcast_S128_S1x128x1x1_1 main_v53
  let main_v55 : FVec F S16x128x8192x1 .f32 := broadcastInDim S16x128x8192x1 ![0, 1, 2, 3] bcast_S1x128x1x1_S16x128x8192x1_0_1_2_3 main_v54
  let main_v56 : FVec F S16x128x8192x1 .f32 := mulf main_v51 main_v55
  let main_v57 : FVec F S16x128x8192x1 .f32 := addf main_v50 main_v56
  let main_v58 : FVec F S16x128x8192x1 .f32 := (extractStridedSlice S16x128x8192x1 ![0, 0, 2, 1] · slices_S16x128x8194x3_S16x128x8192x1_0_0_2_1) main_v7
  let main_v59 : FVec F S128x1x1x1 .f32 := (extractStridedSlice S128x1x1x1 ![0, 0, 2, 1] · slices_S128x1x3x3_S128x1x1x1_0_0_2_1) main_arg1
  let main_v60 : FVec F S128 .f32 := shapeCast S128 main_v59 shapeCasts_S128x1x1x1_S128
  let main_v61 : FVec F S1x128x1x1 .f32 := broadcastInDim S1x128x1x1 ![1] bcast_S128_S1x128x1x1_1 main_v60
  let main_v62 : FVec F S16x128x8192x1 .f32 := broadcastInDim S16x128x8192x1 ![0, 1, 2, 3] bcast_S1x128x1x1_S16x128x8192x1_0_1_2_3 main_v61
  let main_v63 : FVec F S16x128x8192x1 .f32 := mulf main_v58 main_v62
  let main_v64 : FVec F S16x128x8192x1 .f32 := addf main_v57 main_v63
  let main_v65 : FVec F S16x128x8192x1 .f32 := (extractStridedSlice S16x128x8192x1 ![0, 0, 2, 2] · slices_S16x128x8194x3_S16x128x8192x1_0_0_2_2) main_v7
  let main_v66 : FVec F S128x1x1x1 .f32 := (extractStridedSlice S128x1x1x1 ![0, 0, 2, 2] · slices_S128x1x3x3_S128x1x1x1_0_0_2_2) main_arg1
  let main_v67 : FVec F S128 .f32 := shapeCast S128 main_v66 shapeCasts_S128x1x1x1_S128
  let main_v68 : FVec F S1x128x1x1 .f32 := broadcastInDim S1x128x1x1 ![1] bcast_S128_S1x128x1x1_1 main_v67
  fn_part3 (F := F) main_arg1 main_arg2 main_arg3 main_arg4 main_arg5 main_arg6 main_arg7 main_arg8 main_arg9 main_arg10 main_arg11 main_arg13 main_v64 main_v65 main_v68

def fn_part1 {F : FTy → Type} [FloatOps F] (main_arg1 : FVec F S128x1x3x3 .f32) (main_arg2 : FVec F S128 .f32) (main_arg3 : FVec F S128 .f32) (main_arg4 : FVec F S128 .f32) (main_arg5 : FVec F S128 .f32) (main_arg6 : FVec F S64x128x1x1 .f32) (main_arg7 : FVec F S64 .f32) (main_arg8 : FVec F S64 .f32) (main_arg9 : FVec F S64 .f32) (main_arg10 : FVec F S64 .f32) (main_arg11 : FVec F S64 .f32) (main_arg13 : IVec S16 32) (main_v7 : FVec F S16x128x8194x3 .f32) (main_v15 : FVec F S16x128x8192x1 .f32) (main_v16 : FVec F S16x128x8192x1 .f32) (main_v20 : FVec F S16x128x8192x1 .f32) : IVec S16x64x8192 1 × IVec S128x3 1 × IVec S128 1 × IVec S64 1 :=
  let main_v21 : FVec F S16x128x8192x1 .f32 := mulf main_v16 main_v20
  let main_v22 : FVec F S16x128x8192x1 .f32 := addf main_v15 main_v21
  let main_v23 : FVec F S16x128x8192x1 .f32 := (extractStridedSlice S16x128x8192x1 ![0, 0, 0, 2] · slices_S16x128x8194x3_S16x128x8192x1_0_0_0_2) main_v7
  let main_v24 : FVec F S128x1x1x1 .f32 := (extractStridedSlice S128x1x1x1 ![0, 0, 0, 2] · slices_S128x1x3x3_S128x1x1x1_0_0_0_2) main_arg1
  let main_v25 : FVec F S128 .f32 := shapeCast S128 main_v24 shapeCasts_S128x1x1x1_S128
  let main_v26 : FVec F S1x128x1x1 .f32 := broadcastInDim S1x128x1x1 ![1] bcast_S128_S1x128x1x1_1 main_v25
  let main_v27 : FVec F S16x128x8192x1 .f32 := broadcastInDim S16x128x8192x1 ![0, 1, 2, 3] bcast_S1x128x1x1_S16x128x8192x1_0_1_2_3 main_v26
  let main_v28 : FVec F S16x128x8192x1 .f32 := mulf main_v23 main_v27
  let main_v29 : FVec F S16x128x8192x1 .f32 := addf main_v22 main_v28
  let main_v30 : FVec F S16x128x8192x1 .f32 := (extractStridedSlice S16x128x8192x1 ![0, 0, 1, 0] · slices_S16x128x8194x3_S16x128x8192x1_0_0_1_0) main_v7
  let main_v31 : FVec F S128x1x1x1 .f32 := (extractStridedSlice S128x1x1x1 ![0, 0, 1, 0] · slices_S128x1x3x3_S128x1x1x1_0_0_1_0) main_arg1
  let main_v32 : FVec F S128 .f32 := shapeCast S128 main_v31 shapeCasts_S128x1x1x1_S128
  let main_v33 : FVec F S1x128x1x1 .f32 := broadcastInDim S1x128x1x1 ![1] bcast_S128_S1x128x1x1_1 main_v32
  let main_v34 : FVec F S16x128x8192x1 .f32 := broadcastInDim S16x128x8192x1 ![0, 1, 2, 3] bcast_S1x128x1x1_S16x128x8192x1_0_1_2_3 main_v33
  let main_v35 : FVec F S16x128x8192x1 .f32 := mulf main_v30 main_v34
  let main_v36 : FVec F S16x128x8192x1 .f32 := addf main_v29 main_v35
  let main_v37 : FVec F S16x128x8192x1 .f32 := (extractStridedSlice S16x128x8192x1 ![0, 0, 1, 1] · slices_S16x128x8194x3_S16x128x8192x1_0_0_1_1) main_v7
  let main_v38 : FVec F S128x1x1x1 .f32 := (extractStridedSlice S128x1x1x1 ![0, 0, 1, 1] · slices_S128x1x3x3_S128x1x1x1_0_0_1_1) main_arg1
  let main_v39 : FVec F S128 .f32 := shapeCast S128 main_v38 shapeCasts_S128x1x1x1_S128
  let main_v40 : FVec F S1x128x1x1 .f32 := broadcastInDim S1x128x1x1 ![1] bcast_S128_S1x128x1x1_1 main_v39
  let main_v41 : FVec F S16x128x8192x1 .f32 := broadcastInDim S16x128x8192x1 ![0, 1, 2, 3] bcast_S1x128x1x1_S16x128x8192x1_0_1_2_3 main_v40
  let main_v42 : FVec F S16x128x8192x1 .f32 := mulf main_v37 main_v41
  let main_v43 : FVec F S16x128x8192x1 .f32 := addf main_v36 main_v42
  let main_v44 : FVec F S16x128x8192x1 .f32 := (extractStridedSlice S16x128x8192x1 ![0, 0, 1, 2] · slices_S16x128x8194x3_S16x128x8192x1_0_0_1_2) main_v7
  fn_part2 (F := F) main_arg1 main_arg2 main_arg3 main_arg4 main_arg5 main_arg6 main_arg7 main_arg8 main_arg9 main_arg10 main_arg11 main_arg13 main_v7 main_v43 main_v44

def fn {F : FTy → Type} [FloatOps F] (main_arg0 : FVec F S16x8192x128 .f32) (main_arg1 : FVec F S128x1x3x3 .f32) (main_arg2 : FVec F S128 .f32) (main_arg3 : FVec F S128 .f32) (main_arg4 : FVec F S128 .f32) (main_arg5 : FVec F S128 .f32) (main_arg6 : FVec F S64x128x1x1 .f32) (main_arg7 : FVec F S64 .f32) (main_arg8 : FVec F S64 .f32) (main_arg9 : FVec F S64 .f32) (main_arg10 : FVec F S64 .f32) (main_arg11 : FVec F S64 .f32) (main_arg12 : FVec F S64x128 .f32) (main_arg13 : IVec S16 32) : IVec S16x64x8192 1 × IVec S128x3 1 × IVec S128 1 × IVec S64 1 :=
  let main_v0 : FVec F S16x128x8192 .f32 := (transpose S16x128x8192 [0, 2, 1] · transposes_S16x8192x128_S16x128x8192_0_2_1) main_arg0
  let main_v1 : FVec F S16x128x8192x1 .f32 := broadcastInDim S16x128x8192x1 ![0, 1, 2] bcast_S16x128x8192_S16x128x8192x1_0_1_2 main_v0
  let main_v2 : FVec F S16x1x8192x1 .f32 := fn_norm (F := F) main_v1
  let main_cst : FVec F S_ .f32 := constant S_ .f32 0x2B8CBCCC#32
  let main_v3 : FVec F S16x1x8192x1 .f32 := broadcastInDim S16x1x8192x1 ![] bcast_S_S16x1x8192x1 main_cst
  let main_v4 : FVec F S16x1x8192x1 .f32 := maximumf main_v2 main_v3
  let main_v5 : FVec F S16x128x8192x1 .f32 := broadcastInDim S16x128x8192x1 ![0, 1, 2, 3] bcast_S16x1x8192x1_S16x128x8192x1_0_1_2_3 main_v4
  let main_v6 : FVec F S16x128x8192x1 .f32 := Host.divf main_v1 main_v5
  let main_c : IVec S_ 32 := constantI S_ 32 0#32
  let main_v7 : FVec F S16x128x8194x3 .f32 := fn_pad (F := F) main_v6 main_c
  let main_cst_0 : FVec F S_ .f32 := constant S_ .f32 0x00000000#32
  let main_v8 : FVec F S16x128x8192x1 .f32 := broadcastInDim S16x128x8192x1 ![] bcast_S_S16x128x8192x1 main_cst_0
  let main_v9 : FVec F S16x128x8192x1 .f32 := (extractStridedSlice S16x128x8192x1 ![0, 0, 0, 0] · slices_S16x128x8194x3_S16x128x8192x1_0_0_0_0) main_v7
  let main_v10 : FVec F S128x1x1x1 .f32 := (extractStridedSlice S128x1x1x1 ![0, 0, 0, 0] · slices_S128x1x3x3_S128x1x1x1_0_0_0_0) main_arg1
  let main_v11 : FVec F S128 .f32 := shapeCast S128 main_v10 shapeCasts_S128x1x1x1_S128
  let main_v12 : FVec F S1x128x1x1 .f32 := broadcastInDim S1x128x1x1 ![1] bcast_S128_S1x128x1x1_1 main_v11
  let main_v13 : FVec F S16x128x8192x1 .f32 := broadcastInDim S16x128x8192x1 ![0, 1, 2, 3] bcast_S1x128x1x1_S16x128x8192x1_0_1_2_3 main_v12
  let main_v14 : FVec F S16x128x8192x1 .f32 := mulf main_v9 main_v13
  let main_v15 : FVec F S16x128x8192x1 .f32 := addf main_v8 main_v14
  let main_v16 : FVec F S16x128x8192x1 .f32 := (extractStridedSlice S16x128x8192x1 ![0, 0, 0, 1] · slices_S16x128x8194x3_S16x128x8192x1_0_0_0_1) main_v7
  let main_v17 : FVec F S128x1x1x1 .f32 := (extractStridedSlice S128x1x1x1 ![0, 0, 0, 1] · slices_S128x1x3x3_S128x1x1x1_0_0_0_1) main_arg1
  let main_v18 : FVec F S128 .f32 := shapeCast S128 main_v17 shapeCasts_S128x1x1x1_S128
  let main_v19 : FVec F S1x128x1x1 .f32 := broadcastInDim S1x128x1x1 ![1] bcast_S128_S1x128x1x1_1 main_v18
  let main_v20 : FVec F S16x128x8192x1 .f32 := broadcastInDim S16x128x8192x1 ![0, 1, 2, 3] bcast_S1x128x1x1_S16x128x8192x1_0_1_2_3 main_v19
  fn_part1 (F := F) main_arg1 main_arg2 main_arg3 main_arg4 main_arg5 main_arg6 main_arg7 main_arg8 main_arg9 main_arg10 main_arg11 main_arg13 main_v7 main_v15 main_v16 main_v20
-- ==== Kernel.lean ====
abbrev S16x8192x128 : Shape := ⟨3, ![16, 8192, 128]⟩
abbrev S128x1x3x3 : Shape := ⟨4, ![128, 1, 3, 3]⟩
abbrev S128 : Shape := ⟨1, ![128]⟩
abbrev S64x128x1x1 : Shape := ⟨4, ![64, 128, 1, 1]⟩
abbrev S64 : Shape := ⟨1, ![64]⟩
abbrev S64x128 : Shape := ⟨2, ![64, 128]⟩
abbrev S16 : Shape := ⟨1, ![16]⟩
abbrev S_ : Shape := ⟨0, ![]⟩
abbrev S1x128 : Shape := ⟨2, ![1, 128]⟩
abbrev S128x1x3x1 : Shape := ⟨4, ![128, 1, 3, 1]⟩
abbrev S128x3 : Shape := ⟨2, ![128, 3]⟩
abbrev S3x128 : Shape := ⟨2, ![3, 128]⟩
abbrev S64x1 : Shape := ⟨2, ![64, 1]⟩
abbrev S16x64x128 : Shape := ⟨3, ![16, 64, 128]⟩
abbrev S2x8192x128 : Shape := ⟨3, ![2, 8192, 128]⟩
abbrev S2x64x128 : Shape := ⟨3, ![2, 64, 128]⟩
abbrev S1x8192x128 : Shape := ⟨3, ![1, 8192, 128]⟩
abbrev S8192x128 : Shape := ⟨2, ![8192, 128]⟩
abbrev S1 : Shape := ⟨1, ![1]⟩
abbrev S8192 : Shape := ⟨1, ![8192]⟩
abbrev S8192x1 : Shape := ⟨2, ![8192, 1]⟩
abbrev S8191x128 : Shape := ⟨2, ![8191, 128]⟩
abbrev S64x8192 : Shape := ⟨2, ![64, 8192]⟩
abbrev S1x8192 : Shape := ⟨2, ![1, 8192]⟩
abbrev S1x64x128 : Shape := ⟨3, ![1, 64, 128]⟩
abbrev S1x1x1 : Shape := ⟨3, ![1, 1, 1]⟩
abbrev S16x8192 : Shape := ⟨2, ![16, 8192]⟩

abbrev nBuf : Space → Nat
  | .hbm => 47
  | .vmem => 9
  | .smem => 1
  | _ => 0

abbrev bufTy : (tb : Table) → Fin (tcTables nBuf tb) → BufTy
  | .hbm, ⟨0, _⟩ => ⟨S16x8192x128, .f32⟩
  | .hbm, ⟨1, _⟩ => ⟨S128x1x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128x1x1, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x128, .f32⟩
  | .hbm, ⟨13, _⟩ => ⟨S16, .i32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .bf16⟩
  | .hbm, ⟨23, _⟩ => ⟨S128x1x3x1, .f32⟩
  | .hbm, ⟨24, _⟩ => ⟨S128x3, .f32⟩
  | .hbm, ⟨25, _⟩ => ⟨S3x128, .f32⟩
  | .hbm, ⟨26, _⟩ => ⟨S1x128, .f32⟩
  | .hbm, ⟨27, _⟩ => ⟨S3x128, .f32⟩
  | .hbm, ⟨28, _⟩ => ⟨S3x128, .f32⟩
  | .hbm, ⟨29, _⟩ => ⟨S3x128, .bf16⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64x128, .f32⟩
  | .hbm, ⟨36, _⟩ => ⟨S64x1, .f32⟩
  | .hbm, ⟨37, _⟩ => ⟨S64x128, .f32⟩
  | .hbm, ⟨38, _⟩ => ⟨S64x128, .f32⟩
  | .hbm, ⟨39, _⟩ => ⟨S64x128, .bf16⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S64x1, .f32⟩
  | .hbm, ⟨45, _⟩ => ⟨S16x64x128, .f32⟩
  | .hbm, ⟨46, _⟩ => ⟨S16x8192, .f32⟩
  | .local _ .vmem, ⟨0, _⟩ => ⟨S2x8192x128, .f32⟩
  | .local _ .vmem, ⟨1, _⟩ => ⟨S2x8192x128, .f32⟩
  | .local _ .vmem, ⟨2, _⟩ => ⟨S3x128, .bf16⟩
  | .local _ .vmem, ⟨3, _⟩ => ⟨S1x128, .bf16⟩
  | .local _ .vmem, ⟨4, _⟩ => ⟨S64x128, .bf16⟩
  | .local _ .vmem, ⟨5, _⟩ => ⟨S64x1, .f32⟩
  | .local _ .vmem, ⟨6, _⟩ => ⟨S64x128, .f32⟩
  | .local _ .vmem, ⟨7, _⟩ => ⟨S2x64x128, .f32⟩
  | .local _ .vmem, ⟨8, _⟩ => ⟨S2x64x128, .f32⟩
  | .local _ .smem, ⟨0, _⟩ => ⟨S16, .i32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 1 → Nat :=
  let arg0 : BitVec 32 := BitVec.ofNat 32 (i 0).val
  let c2_i32 : BitVec 32 := 2#32
  let v2 : BitVec 32 := Scalar.muli arg0 c2_i32
  let v3 : BitVec 32 := Scalar.addi v2 c0_i32
  let v4 : Index := Scalar.indexCast v3
  ![v4.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "eps_norm_sq" => some ((5316911940649 / 5316911983139663491615228241121378304 : ℝ) : EReal)
  | _ => none
-- ==== ReferenceIdeal.lean ====
abbrev S16x8192x128 : Shape := ⟨3, ![16, 8192, 128]⟩
abbrev S128x1x3x3 : Shape := ⟨4, ![128, 1, 3, 3]⟩
abbrev S128 : Shape := ⟨1, ![128]⟩
abbrev S64x128x1x1 : Shape := ⟨4, ![64, 128, 1, 1]⟩
abbrev S64 : Shape := ⟨1, ![64]⟩
abbrev S64x128 : Shape := ⟨2, ![64, 128]⟩
abbrev S16 : Shape := ⟨1, ![16]⟩
abbrev S16x128x8192 : Shape := ⟨3, ![16, 128, 8192]⟩
abbrev S16x128x8192x1 : Shape := ⟨4, ![16, 128, 8192, 1]⟩
abbrev S_ : Shape := ⟨0, ![]⟩
abbrev S16x8192x1 : Shape := ⟨3, ![16, 8192, 1]⟩
abbrev S16x1x8192x1 : Shape := ⟨4, ![16, 1, 8192, 1]⟩
abbrev S16x128x8194x3 : Shape := ⟨4, ![16, 128, 8194, 3]⟩
abbrev S128x1x1x1 : Shape := ⟨4, ![128, 1, 1, 1]⟩
abbrev S1x128x1x1 : Shape := ⟨4, ![1, 128, 1, 1]⟩
abbrev S64x16x8192x1 : Shape := ⟨4, ![64, 16, 8192, 1]⟩
abbrev S16x64x8192x1 : Shape := ⟨4, ![16, 64, 8192, 1]⟩
abbrev S1x64x1x1 : Shape := ⟨4, ![1, 64, 1, 1]⟩
abbrev S16x64x8192 : Shape := ⟨3, ![16, 64, 8192]⟩
abbrev S8192 : Shape := ⟨1, ![8192]⟩
abbrev S1x8192 : Shape := ⟨2, ![1, 8192]⟩
abbrev S16x1 : Shape := ⟨2, ![16, 1]⟩
abbrev S16x8192 : Shape := ⟨2, ![16, 8192]⟩
abbrev S16x1x8192 : Shape := ⟨3, ![16, 1, 8192]⟩
abbrev S16x64x128 : Shape := ⟨3, ![16, 64, 128]⟩
abbrev S16x64 : Shape := ⟨2, ![16, 64]⟩
abbrev S16x64x1 : Shape := ⟨3, ![16, 64, 1]⟩
abbrev S1x64x128 : Shape := ⟨3, ![1, 64, 128]⟩

abbrev nBuf : Space → Nat
  | .hbm => 200
  | .vmem => 0
  | .smem => 0
  | _ => 0

abbrev hbmTy0_0 (i : Nat) : BufTy := match i % 128 with
  | 0 => ⟨S16x8192x128, .f32⟩
  | 1 => ⟨S128x1x3x3, .f32⟩
  | 2 => ⟨S128, .f32⟩
  | 3 => ⟨S128, .f32⟩
  | 4 => ⟨S128, .f32⟩
  | 5 => ⟨S128, .f32⟩
  | 6 => ⟨S64x128x1x1, .f32⟩
  | 7 => ⟨S64, .f32⟩
  | 8 => ⟨S64, .f32⟩
  | 9 => ⟨S64, .f32⟩
  | 10 => ⟨S64, .f32⟩
  | 11 => ⟨S64, .f32⟩
  | 12 => ⟨S64x128, .f32⟩
  | 13 => ⟨S16, .i32⟩
  | 14 => ⟨S16x128x8192, .f32⟩
  | 15 => ⟨S16x128x8192x1, .f32⟩
  | 16 => ⟨S16x128x8192x1, .f32⟩
  | 17 => ⟨S_, .f32⟩
  | 18 => ⟨S16x8192x1, .f32⟩
  | 19 => ⟨S16x1x8192x1, .f32⟩
  | 20 => ⟨S16x1x8192x1, .f32⟩
  | 21 => ⟨S_, .f32⟩
  | 22 => ⟨S16x1x8192x1, .f32⟩
  | 23 => ⟨S16x1x8192x1, .f32⟩
  | 24 => ⟨S16x128x8192x1, .f32⟩
  | 25 => ⟨S16x128x8192x1, .f32⟩
  | 26 => ⟨S_, .i32⟩
  | 27 => ⟨S_, .f32⟩
  | 28 => ⟨S16x128x8194x3, .f32⟩
  | 29 => ⟨S_, .f32⟩
  | 30 => ⟨S16x128x8192x1, .f32⟩
  | 31 => ⟨S16x128x8192x1, .f32⟩
  | 32 => ⟨S128x1x1x1, .f32⟩
  | 33 => ⟨S128, .f32⟩
  | 34 => ⟨S1x128x1x1, .f32⟩
  | 35 => ⟨S16x128x8192x1, .f32⟩
  | 36 => ⟨S16x128x8192x1, .f32⟩
  | 37 => ⟨S16x128x8192x1, .f32⟩
  | 38 => ⟨S16x128x8192x1, .f32⟩
  | 39 => ⟨S128x1x1x1, .f32⟩
  | 40 => ⟨S128, .f32⟩
  | 41 => ⟨S1x128x1x1, .f32⟩
  | 42 => ⟨S16x128x8192x1, .f32⟩
  | 43 => ⟨S16x128x8192x1, .f32⟩
  | 44 => ⟨S16x128x8192x1, .f32⟩
  | 45 => ⟨S16x128x8192x1, .f32⟩
  | 46 => ⟨S128x1x1x1, .f32⟩
  | 47 => ⟨S128, .f32⟩
  | 48 => ⟨S1x128x1x1, .f32⟩
  | 49 => ⟨S16x128x8192x1, .f32⟩
  | 50 => ⟨S16x128x8192x1, .f32⟩
  | 51 => ⟨S16x128x8192x1, .f32⟩
  | 52 => ⟨S16x128x8192x1, .f32⟩
  | 53 => ⟨S128x1x1x1, .f32⟩
  | 54 => ⟨S128, .f32⟩
  | 55 => ⟨S1x128x1x1, .f32⟩
  | 56 => ⟨S16x128x8192x1, .f32⟩
  | 57 => ⟨S16x128x8192x1, .f32⟩
  | 58 => ⟨S16x128x8192x1, .f32⟩
  | 59 => ⟨S16x128x8192x1, .f32⟩
  | 60 => ⟨S128x1x1x1, .f32⟩
  | 61 => ⟨S128, .f32⟩
  | 62 => ⟨S1x128x1x1, .f32⟩
  | 63 => ⟨S16x128x8192x1, .f32⟩
  | 64 => ⟨S16x128x8192x1, .f32⟩
  | 65 => ⟨S16x128x8192x1, .f32⟩
  | 66 => ⟨S16x128x8192x1, .f32⟩
  | 67 => ⟨S128x1x1x1, .f32⟩
  | 68 => ⟨S128, .f32⟩
  | 69 => ⟨S1x128x1x1, .f32⟩
  | 70 => ⟨S16x128x8192x1, .f32⟩
  | 71 => ⟨S16x128x8192x1, .f32⟩
  | 72 => ⟨S16x128x8192x1, .f32⟩
  | 73 => ⟨S16x128x8192x1, .f32⟩
  | 74 => ⟨S128x1x1x1, .f32⟩
  | 75 => ⟨S128, .f32⟩
  | 76 => ⟨S1x128x1x1, .f32⟩
  | 77 => ⟨S16x128x8192x1, .f32⟩
  | 78 => ⟨S16x128x8192x1, .f32⟩
  | 79 => ⟨S16x128x8192x1, .f32⟩
  | 80 => ⟨S16x128x8192x1, .f32⟩
  | 81 => ⟨S128x1x1x1, .f32⟩
  | 82 => ⟨S128, .f32⟩
  | 83 => ⟨S1x128x1x1, .f32⟩
  | 84 => ⟨S16x128x8192x1, .f32⟩
  | 85 => ⟨S16x128x8192x1, .f32⟩
  | 86 => ⟨S16x128x8192x1, .f32⟩
  | 87 => ⟨S16x128x8192x1, .f32⟩
  | 88 => ⟨S128x1x1x1, .f32⟩
  | 89 => ⟨S128, .f32⟩
  | 90 => ⟨S1x128x1x1, .f32⟩
  | 91 => ⟨S16x128x8192x1, .f32⟩
  | 92 => ⟨S16x128x8192x1, .f32⟩
  | 93 => ⟨S16x128x8192x1, .f32⟩
  | 94 => ⟨S_, .f32⟩
  | 95 => ⟨S128, .f32⟩
  | 96 => ⟨S128, .f32⟩
  | 97 => ⟨S128, .f32⟩
  | 98 => ⟨S128, .f32⟩
  | 99 => ⟨S1x128x1x1, .f32⟩
  | 100 => ⟨S16x128x8192x1, .f32⟩
  | 101 => ⟨S16x128x8192x1, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S128, .f32⟩
  | 109 => ⟨S1x128x1x1, .f32⟩
  | 110 => ⟨S16x128x8192x1, .f32⟩
  | 111 => ⟨S16x128x8192x1, .f32⟩
  | 112 => ⟨S_, .f32⟩
  | 113 => ⟨S16x128x8192x1, .f32⟩
  | 114 => ⟨S16x128x8192x1, .f32⟩
  | 115 => ⟨S64x128, .f32⟩
  | 116 => ⟨S64x16x8192x1, .f32⟩
  | 117 => ⟨S16x64x8192x1, .f32⟩
  | 118 => ⟨S1x64x1x1, .f32⟩
  | 119 => ⟨S16x64x8192x1, .f32⟩
  | 120 => ⟨S16x64x8192x1, .f32⟩
  | 121 => ⟨S_, .f32⟩
  | 122 => ⟨S64, .f32⟩
  | 123 => ⟨S64, .f32⟩
  | 124 => ⟨S64, .f32⟩
  | 125 => ⟨S64, .f32⟩
  | 126 => ⟨S1x64x1x1, .f32⟩
  | 127 => ⟨S16x64x8192x1, .f32⟩
  | _ => ⟨S16x8192x128, .f32⟩

abbrev hbmTy0_1 (i : Nat) : BufTy := match i % 128 with
  | 0 => ⟨S16x64x8192x1, .f32⟩
  | 1 => ⟨S64, .f32⟩
  | 2 => ⟨S_, .f32⟩
  | 3 => ⟨S64, .f32⟩
  | 4 => ⟨S64, .f32⟩
  | 5 => ⟨S64, .f32⟩
  | 6 => ⟨S64, .f32⟩
  | 7 => ⟨S64, .f32⟩
  | 8 => ⟨S1x64x1x1, .f32⟩
  | 9 => ⟨S16x64x8192x1, .f32⟩
  | 10 => ⟨S16x64x8192x1, .f32⟩
  | 11 => ⟨S_, .f32⟩
  | 12 => ⟨S16x64x8192x1, .f32⟩
  | 13 => ⟨S16x64x8192x1, .f32⟩
  | 14 => ⟨S16x64x8192, .f32⟩
  | 15 => ⟨S8192, .i32⟩
  | 16 => ⟨S1x8192, .i32⟩
  | 17 => ⟨S16x1, .i32⟩
  | 18 => ⟨S16x8192, .i32⟩
  | 19 => ⟨S16x8192, .i32⟩
  | 20 => ⟨S16x8192, .i1⟩
  | 21 => ⟨S16x1x8192, .i1⟩
  | 22 => ⟨S_, .f32⟩
  | 23 => ⟨S_, .f32⟩
  | 24 => ⟨S16x64x8192, .i1⟩
  | 25 => ⟨S16x64x8192, .f32⟩
  | 26 => ⟨S16x64x8192, .f32⟩
  | 27 => ⟨S_, .f32⟩
  | 28 => ⟨S16x8192, .f32⟩
  | 29 => ⟨S_, .f32⟩
  | 30 => ⟨S16x8192, .f32⟩
  | 31 => ⟨S16x8192, .f32⟩
  | 32 => ⟨S16x1x8192, .f32⟩
  | 33 => ⟨S16x64x8192, .f32⟩
  | 34 => ⟨S16x64x8192, .f32⟩
  | 35 => ⟨S16x64x8192, .f32⟩
  | 36 => ⟨S_, .f32⟩
  | 37 => ⟨S16x8192, .f32⟩
  | 38 => ⟨S16x1x8192, .f32⟩
  | 39 => ⟨S16x64x8192, .f32⟩
  | 40 => ⟨S16x64x8192, .f32⟩
  | 41 => ⟨S16x128x8192, .f32⟩
  | 42 => ⟨S16x64x128, .f32⟩
  | 43 => ⟨S_, .f32⟩
  | 44 => ⟨S16x64, .f32⟩
  | 45 => ⟨S16x64x1, .f32⟩
  | 46 => ⟨S1x64x128, .f32⟩
  | 47 => ⟨S16x64x128, .f32⟩
  | 48 => ⟨S16x64x128, .f32⟩
  | 49 => ⟨S16x64x128, .f32⟩
  | 50 => ⟨S16x64x128, .f32⟩
  | 51 => ⟨S16x64x128, .f32⟩
  | 52 => ⟨S_, .f32⟩
  | 53 => ⟨S16x64, .f32⟩
  | 54 => ⟨S16x64x1, .f32⟩
  | 55 => ⟨S16x64x1, .f32⟩
  | 56 => ⟨S_, .f32⟩
  | 57 => ⟨S16x64x1, .f32⟩
  | 58 => ⟨S16x64x1, .f32⟩
  | 59 => ⟨S16x64x128, .f32⟩
  | 60 => ⟨S16x64x128, .f32⟩
  | 61 => ⟨S16x8192, .f32⟩
  | 62 => ⟨S16x8192, .f32⟩
  | 63 => ⟨S_, .f32⟩
  | 64 => ⟨S16, .f32⟩
  | 65 => ⟨S16x1, .f32⟩
  | 66 => ⟨S16x1, .f32⟩
  | 67 => ⟨S_, .f32⟩
  | 68 => ⟨S16x1, .f32⟩
  | 69 => ⟨S16x1, .f32⟩
  | 70 => ⟨S16x8192, .f32⟩
  | 71 => ⟨S16x8192, .f32⟩
  | _ => ⟨S16x8192x128, .f32⟩

abbrev hbmTy (i : Nat) : BufTy := match i / 128 with
  | 0 => hbmTy0_0 i
  | 1 => hbmTy0_1 i
  | _ => ⟨S16x8192x128, .f32⟩

abbrev bufTy : (tb : Table) → Fin (tcTables nBuf tb) → BufTy
  | .hbm, ⟨i, _⟩ => hbmTy i
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call1_v0 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_1 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_2 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call2_cst : Ref sig .tc := ⟨.hbm, 112, rfl⟩
abbrev main_call2_v0 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_3 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_4 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_call3_cst : Ref sig .tc := ⟨.hbm, 139, rfl⟩
abbrev main_call3_v0 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_5 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v120 : Ref sig .tc := ⟨.hbm, 154, rfl⟩
abbrev main_cst_6 : Ref sig .tc := ⟨.hbm, 155, rfl⟩
abbrev main_v121 : Ref sig .tc := ⟨.hbm, 156, rfl⟩
abbrev main_cst_7 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_8 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_9 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_call5_v0 : Ref sig .tc := ⟨.hbm, 179, rfl⟩
abbrev main_call5_cst : Ref sig .tc := ⟨.hbm, 180, rfl⟩
abbrev main_call5_v1 : Ref sig .tc := ⟨.hbm, 181, rfl⟩
abbrev main_call5_v2 : Ref sig .tc := ⟨.hbm, 182, rfl⟩
abbrev main_v141 : Ref sig .tc := ⟨.hbm, 183, rfl⟩
abbrev main_cst_10 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_call6_v0 : Ref sig .tc := ⟨.hbm, 190, rfl⟩
abbrev main_call6_cst : Ref sig .tc := ⟨.hbm, 191, rfl⟩
abbrev main_call6_v1 : Ref sig .tc := ⟨.hbm, 192, rfl⟩
abbrev main_call6_v2 : Ref sig .tc := ⟨.hbm, 193, rfl⟩
abbrev main_v147 : Ref sig .tc := ⟨.hbm, 194, rfl⟩
abbrev main_cst_11 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩

abbrev nD : Nat := 1
abbrev τ : Topo := Topo.v7x

variable {F : FTy → Type} [FloatOps F]
-- ==== Proof.Arith.lean ====
/- The laws of the extended reals that the value claim rests on: the two spellings of a division by a length, of a
   batch normalisation and of a softmax are equal. Nothing here names a program. -/
module

public import Idealize.ShloMosaic.Lib.Pointwise

@[expose] public section

noncomputable section

namespace Cert.Netvlad

open Idealize.ShloMosaic

/-! ## The constants -/

/-- The smallest length that a vector is divided by: the single-precision number nearest to 1e-12. -/
def eps : ℝ := 2305843 / 2305843009213693952

theorem eps_pos : 0 < eps := by unfold eps; norm_num

theorem ofBits_eps : Ideal.ofBits .f32 0x2B8CBCCC#32 = (eps : EReal) := by
  simp [Ideal.ofBits, Ideal.ieee, -EReal.coe_mul, eps]; norm_num

theorem ofBits_clamp : Ideal.ofBits .f32 0x42A00000#32 = ((80 : ℝ) : EReal) := by
  simp [Ideal.ofBits, Ideal.ieee, -EReal.coe_mul]; norm_num

/-- What the reference fills a masked score with: the single-precision number nearest to -1e18. -/
theorem ofBits_fill : Ideal.ofBits .f32 0xDD5E0B6B#32 = ((-999999984306749440 : ℝ) : EReal) := by
  simp [Ideal.ofBits, Ideal.ieee, -EReal.coe_mul, -EReal.coe_neg]; norm_num

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-! ## Real values -/

theorem coe_max (a b : ℝ) : ((max a b : ℝ) : EReal) = max (a : EReal) b := EReal.coe_strictMono.monotone.map_max

/-- The value is a real number. -/
def IsReal (x : EReal) : Prop := ∃ r : ℝ, x = (r : EReal)

theorem isReal_zero : IsReal 0 := ⟨0, rfl⟩

theorem isReal_of {x : EReal} (h1 : x ≠ ⊥) (h2 : x ≠ ⊤) : IsReal x :=
  ⟨x.toReal, (EReal.coe_toReal h2 h1).symm⟩

theorem IsReal.mul {x y : EReal} (hx : IsReal x) (hy : IsReal y) : IsReal (x * y) := by
  obtain ⟨a, rfl⟩ := hx; obtain ⟨b, rfl⟩ := hy; exact ⟨a * b, by norm_cast⟩

/-- A value whose magnitude is below infinity is a real number. -/
theorem isReal_of_abs_lt {x : EReal} (h : max x (-x) < ⊤) : IsReal x := by
  refine isReal_of ?_ ?_
  · rintro rfl; simp at h
  · rintro rfl; simp at h

/-! ## The division by a length -/

theorem rsqrt_top : Ideal.rsqrt ⊤ = 0 := rfl

theorem rsqrt_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

theorem sqrt_nonneg {r : ℝ} (h : 0 ≤ r) : Ideal.sqrt (r : EReal) = ((Real.sqrt r : ℝ) : EReal) := by
  show (if r < 0 then (⊥ : EReal) else ((Real.sqrt r : ℝ) : EReal)) = _
  rw [if_neg (not_lt.2 h)]

theorem div_real (x : EReal) {r : ℝ} (h : r ≠ 0) : Ideal.div x (r : EReal) = x * ((r⁻¹ : ℝ) : EReal) := by
  unfold Ideal.div
  rw [if_neg (by exact_mod_cast h), EReal.coe_inv]

theorem div_top (x : EReal) : Ideal.div x ⊤ = 0 := by
  unfold Ideal.div
  rw [if_neg (by simp), EReal.inv_top, mul_zero]

/-- The reciprocal root of the squared length, clamped at the squared `eps`, is the quotient by the length clamped
    at `eps`. -/
theorem scale_eq_div (x ss : EReal) (h : 0 ≤ ss) :
    x * Ideal.rsqrt (max ss ((eps * eps : ℝ) : EReal)) = Ideal.div x (max (Ideal.sqrt ss) (eps : EReal)) := by
  induction ss using EReal.rec with
  | bot => simp at h
  | top =>
    rw [max_eq_left le_top, rsqrt_top, mul_zero]
    show 0 = Ideal.div x (max ⊤ _)
    rw [max_eq_left le_top, div_top]
  | coe r =>
    have hr : 0 ≤ r := by exact_mod_cast h
    have he : 0 < eps * eps := mul_pos eps_pos eps_pos
    rw [← coe_max, rsqrt_pos (lt_of_lt_of_le he (le_max_right _ _)), sqrt_nonneg hr, ← coe_max,
      div_real _ (lt_of_lt_of_le eps_pos (le_max_right _ _)).ne']
    congr 3
    rw [Real.sqrt_monotone.map_max, Real.sqrt_mul_self eps_pos.le]

theorem mul_self_nonneg' (x : EReal) : 0 ≤ x * x := by
  induction x using EReal.rec with
  | bot => simp
  | top => simp
  | coe r => exact_mod_cast mul_self_nonneg r

theorem sum_sq_nonneg {ι : Type} [Fintype ι] (v : ι → EReal) : 0 ≤ ∑ i, v i * v i :=
  Finset.sum_nonneg fun i _ => mul_self_nonneg' (v i)

/-- A normalised vector has real entries, whatever the vector. -/
theorem isReal_unit {ι : Type} [Fintype ι] (v : ι → EReal) (i : ι) :
    IsReal (v i * Ideal.rsqrt (max (∑ j, v j * v j) ((eps * eps : ℝ) : EReal))) := by
  have hle : v i * v i ≤ ∑ j, v j * v j :=
    Finset.single_le_sum (f := fun j => v j * v j) (fun j _ => mul_self_nonneg' (v j)) (Finset.mem_univ i)
  have h0 := sum_sq_nonneg v
  generalize (∑ j, v j * v j) = ss at hle h0
  induction ss using EReal.rec with
  | bot => simp at h0
  | top => rw [max_eq_left le_top, rsqrt_top, mul_zero]; exact isReal_zero
  | coe r =>
    have he : 0 < eps * eps := mul_pos eps_pos eps_pos
    rw [← coe_max, rsqrt_pos (lt_of_lt_of_le he (le_max_right _ _))]
    refine IsReal.mul (isReal_of ?_ ?_) ⟨_, rfl⟩
    · intro e; rw [e] at hle; simp at hle
    · intro e; rw [e] at hle; simp at hle

/-! ## The batch normalisation -/

/-- The gain times the reciprocal root of a positive variance is the gain divided by the root. -/
theorem gain_eq (x d : EReal) (hd : 0 < d) : Ideal.div x (Ideal.sqrt d) = x * Ideal.rsqrt d := by
  induction d using EReal.rec with
  | bot => simp at hd
  | top => rw [rsqrt_top, mul_zero]; exact div_top x
  | coe r =>
    have hr : 0 < r := by exact_mod_cast hd
    rw [rsqrt_pos hr, sqrt_nonneg hr.le, div_real _ (Real.sqrt_pos.2 hr).ne']

theorem isReal_rsqrt {d : EReal} (hd : 0 < d) : IsReal (Ideal.rsqrt d) := by
  induction d using EReal.rec with
  | bot => simp at hd
  | top => exact isReal_zero
  | coe r => exact ⟨_, rsqrt_pos (by exact_mod_cast hd)⟩

/-- Three real taps, each scaled, or their sum scaled. -/
theorem taps_scale {p x n a b c s : EReal} (hp : IsReal p) (hx : IsReal x) (hn : IsReal n) (ha : IsReal a)
    (hb : IsReal b) (hc : IsReal c) (hs : IsReal s) :
    p * (a * s) + x * (b * s) + n * (c * s) = (p * a + x * b + n * c) * s := by
  obtain ⟨p, rfl⟩ := hp; obtain ⟨x, rfl⟩ := hx; obtain ⟨n, rfl⟩ := hn
  obtain ⟨a, rfl⟩ := ha; obtain ⟨b, rfl⟩ := hb; obtain ⟨c, rfl⟩ := hc; obtain ⟨s, rfl⟩ := hs
  norm_cast; ring

theorem add_mul_nonneg {s : ℝ} (hs : 0 ≤ s) (a b : EReal) : (a + b) * (s : EReal) = a * s + b * s :=
  EReal.right_distrib_of_nonneg_of_ne_top (by exact_mod_cast hs) (EReal.coe_ne_top s) a b

theorem sum_mul_nonneg {ι : Type} (S : Finset ι) (t : ι → EReal) {s : ℝ} (hs : 0 ≤ s) :
    (∑ i ∈ S, t i) * (s : EReal) = ∑ i ∈ S, t i * s := by
  classical
  induction S using Finset.induction_on with
  | empty => simp
  | insert i S hi ih => rw [Finset.sum_insert hi, Finset.sum_insert hi, add_mul_nonneg hs, ih]

theorem sum_eq_bot {ι : Type} (S : Finset ι) (t : ι → EReal) : ∑ i ∈ S, t i = ⊥ ↔ ∃ i ∈ S, t i = ⊥ := by
  classical
  induction S using Finset.induction_on with
  | empty => simp
  | insert i S hi ih => rw [Finset.sum_insert hi, EReal.add_eq_bot_iff, ih]; simp

/-- A sum that is not negative infinity is negated term by term. -/
theorem neg_sum {ι : Type} (S : Finset ι) (t : ι → EReal) (h : ∀ i ∈ S, t i ≠ ⊥) :
    -(∑ i ∈ S, t i) = ∑ i ∈ S, -t i := by
  classical
  induction S using Finset.induction_on with
  | empty => simp
  | insert i S hi ih =>
    have hS : ∀ j ∈ S, t j ≠ ⊥ := fun j hj => h j (Finset.mem_insert_of_mem hj)
    rw [Finset.sum_insert hi, Finset.sum_insert hi, ← ih hS, EReal.neg_add (Or.inl (h i (Finset.mem_insert_self _ _)))
      (Or.inr fun e => by obtain ⟨j, hj, e⟩ := (sum_eq_bot S t).1 e; exact hS j hj e), sub_eq_add_neg]

/-- A weighted sum and its bias, then a batch normalisation with a real gain, is the weighted sum with the gain folded
    into the weights and the bias — unless the value is positive infinity. -/
theorem fold_gain {ι : Type} [Fintype ι] (t : ι → EReal) (b β m : EReal) (s : ℝ)
    (h : (∑ i, t i + b) * (s : EReal) + (β - m * s) ≠ ⊤) :
    ∑ i, t i * (s : EReal) + (b * s + β - m * s) = (∑ i, t i + b) * (s : EReal) + (β - m * s) := by
  have hb : b * (s : EReal) + β - m * s = b * s + (β - m * s) := by rw [sub_eq_add_neg, sub_eq_add_neg, add_assoc]
  rw [hb]
  rcases le_or_gt 0 s with hs | hs
  · rw [add_mul_nonneg hs, sum_mul_nonneg _ _ hs, add_assoc]
  · by_cases hB : β - m * (s : EReal) = ⊥
    · rw [hB, EReal.add_bot, EReal.add_bot, EReal.add_bot]
    have hbot : ∑ i, t i + b ≠ ⊥ := by
      intro e
      rw [e, EReal.bot_mul_coe_of_neg hs, EReal.top_add_of_ne_bot hB] at h
      exact h rfl
    have h1 : ∑ i, t i ≠ ⊥ := fun e => hbot (by rw [e, EReal.bot_add])
    have h2 : b ≠ ⊥ := fun e => hbot (by rw [e, EReal.add_bot])
    have hneg : ∀ x : EReal, x * (s : EReal) = -x * ((-s : ℝ) : EReal) := fun x => by
      rw [EReal.coe_neg, neg_mul_neg]
    have hs' : (0 : ℝ) ≤ -s := by linarith
    rw [hneg (∑ i, t i + b), EReal.neg_add (Or.inl h1) (Or.inr h2), sub_eq_add_neg (-∑ i, t i), add_mul_nonneg hs',
      neg_sum _ _ (fun i hi e => h1 ((sum_eq_bot _ t).2 ⟨i, hi, e⟩)), sum_mul_nonneg _ _ hs', add_assoc]
    simp only [← hneg]

/-! ## The softmax -/

theorem exp_real (r : ℝ) : Ideal.exp (r : EReal) = ((Real.exp r : ℝ) : EReal) := rfl

theorem sum_real {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-- A softmax of real scores does not see a shift of all the scores, and its quotient is a product with the
    reciprocal of the sum. -/
theorem softmax_shift {ι : Type} [Fintype ι] [Nonempty ι] (p q : ι → EReal) (qr : ι → ℝ) (hq : ∀ i, q i = (qr i : EReal))
    (d : ℝ) (hp : ∀ i, p i = ((qr i - d : ℝ) : EReal)) (k : ι) :
    Ideal.exp (q k) * Ideal.div 1 (∑ i, Ideal.exp (q i)) = Ideal.div (Ideal.exp (p k)) (∑ i, Ideal.exp (p i)) := by
  have hpos : ∀ f : ι → ℝ, (0 : ℝ) < ∑ i, Real.exp (f i) := fun f =>
    Finset.sum_pos (fun i _ => Real.exp_pos _) Finset.univ_nonempty
  simp only [hp, hq, exp_real, sum_real]
  rw [div_real _ (hpos _).ne', div_real _ (hpos _).ne', one_mul, ← EReal.coe_mul, ← EReal.coe_mul]
  congr 1
  have e : ∑ i, Real.exp (qr i - d) = (∑ i, Real.exp (qr i)) * Real.exp (-d) := by
    rw [Finset.sum_mul]; exact Finset.sum_congr rfl fun i _ => by rw [sub_eq_add_neg, Real.exp_add]
  rw [e, sub_eq_add_neg, Real.exp_add]
  have h1 := (hpos qr).ne'
  have h2 := (Real.exp_pos (-d)).ne'
  field_simp

/-- The largest of finitely many real numbers, taken from negative infinity, is a real number. -/
theorem isReal_fold_max {ι : Type} (S : Finset ι) (hS : S.Nonempty) (f : ι → EReal) (hf : ∀ i, IsReal (f i)) :
    IsReal (max ⊥ (S.fold max ⊥ f)) := by
  rw [max_eq_right bot_le]
  refine isReal_of ?_ ?_
  · obtain ⟨i, hi⟩ := hS
    obtain ⟨r, hr⟩ := hf i
    intro e
    have h := (Finset.le_fold_max (f := f) (s := S) (b := (⊥ : EReal)) (f i)).2 (Or.inr ⟨i, hi, le_rfl⟩)
    rw [e, hr] at h
    simp at h
  · intro e
    have h := (Finset.fold_max_lt (f := f) (s := S) (b := (⊥ : EReal)) ⊤).2
      ⟨bot_lt_top, fun i _ => by obtain ⟨r, hr⟩ := hf i; rw [hr]; exact EReal.coe_lt_top r⟩
    rw [e] at h
    exact lt_irrefl _ h

end Cert.Netvlad

end
-- ==== Proof.Layer.lean ====
/- One batch of the layer as the kernel computes it, as functions of plain coordinates: descriptors normalised, smoothed
   over time, scored against the clusters, the scores' softmax, and the residuals' sum normalised twice. -/
module

public import proofs.«01_k».proof.Proof.Arith

@[expose] public section

noncomputable section

namespace Cert.Netvlad

open Idealize.ShloMosaic

/-- A vector over its length, the length clamped from below. -/
def unit {ι : Type} [Fintype ι] (v : ι → EReal) (i : ι) : EReal :=
  v i * Ideal.rsqrt (max (∑ j, v j * v j) ((eps * eps : ℝ) : EReal))

/-- The row before row `t`, zero before the first. -/
def before (x : Fin 8192 → Fin 128 → EReal) (t : Fin 8192) (c : Fin 128) : EReal :=
  if _h : (t : ℕ) < 1 then 0 else x ⟨(t : ℕ) - 1, by omega⟩ c

/-- The row after row `t`, zero after the last. -/
def behind (x : Fin 8192 → Fin 128 → EReal) (t : Fin 8192) (c : Fin 128) : EReal :=
  if h : (t : ℕ) < 8191 then x ⟨1 + (t : ℕ), by omega⟩ c else 0

/-- The smoothed rows: three taps per channel, a shift, the negative part cut off. -/
def smooth (x : Fin 8192 → Fin 128 → EReal) (w0 w1 w2 b : Fin 128 → EReal) (t : Fin 8192) (c : Fin 128) : EReal :=
  max (before x t c * w0 c + x t c * w1 c + behind x t c * w2 c + b c) 0

/-- Whether row `t` is among the first `len`. -/
def counts (len : BitVec 32) (t : Fin 8192) : BitVec 1 := IntOp.cmpi CmpIPredicate.slt (BitVec.ofNat 32 t) len

/-- The clamped scores, zero on the rows that do not count. -/
def score (h : Fin 8192 → Fin 128 → EReal) (len : BitVec 32) (w : Fin 64 → Fin 128 → EReal) (b : Fin 64 → EReal)
    (k : Fin 64) (t : Fin 8192) : EReal :=
  Scalar.select (counts len t) (min (max (∑ c, w k c * h t c + b k) 0) ((80 : ℝ) : EReal)) 0

/-- The softmax over the clusters, without a shift. -/
def soft (s : Fin 64 → Fin 8192 → EReal) (k : Fin 64) (t : Fin 8192) : EReal :=
  Ideal.exp (s k t) * Ideal.div 1 (∑ j, Ideal.exp (s j t))

/-- The rows' residuals to the clusters' centres, summed with the assignments as weights. -/
def resid (x : Fin 8192 → Fin 128 → EReal) (a : Fin 64 → Fin 8192 → EReal) (z : Fin 64 → Fin 128 → EReal)
    (k : Fin 64) (c : Fin 128) : EReal :=
  ∑ t, a k t * x t c - (∑ t, a k t) * z k c

/-- Each cluster's residual normalised, then all of them together. -/
def twice (v : Fin 64 → Fin 128 → EReal) (k : Fin 64) (c : Fin 128) : EReal :=
  unit (v k) c * Ideal.rsqrt (max (∑ i, ∑ j, unit (v i) j * unit (v i) j) ((eps * eps : ℝ) : EReal))

/-- One batch of the layer. -/
def batch (x : Fin 8192 → Fin 128 → EReal) (len : BitVec 32) (t0 t1 t2 sh : Fin 128 → EReal)
    (w : Fin 64 → Fin 128 → EReal) (b : Fin 64 → EReal) (z : Fin 64 → Fin 128 → EReal) (k : Fin 64) (c : Fin 128) : EReal :=
  twice (resid (fun t => unit (x t)) (soft (score (smooth (fun t => unit (x t)) t0 t1 t2 sh) len w b)) z) k c

/-- Equal data give the same batch. -/
theorem batch_congr {x x' : Fin 8192 → Fin 128 → EReal} {len len' : BitVec 32} {t0 t0' t1 t1' t2 t2' sh sh' : Fin 128 → EReal}
    {w w' : Fin 64 → Fin 128 → EReal} {b b' : Fin 64 → EReal} {z z' : Fin 64 → Fin 128 → EReal} {k k' : Fin 64} {c c' : Fin 128}
    (hx : ∀ t c, x t c = x' t c) (hlen : len = len') (h0 : ∀ c, t0 c = t0' c) (h1 : ∀ c, t1 c = t1' c) (h2 : ∀ c, t2 c = t2' c)
    (hs : ∀ c, sh c = sh' c) (hw : ∀ k c, w k c = w' k c) (hb : ∀ k, b k = b' k) (hz : ∀ k c, z k c = z' k c)
    (hk : k = k') (hc : c = c') : batch x len t0 t1 t2 sh w b z k c = batch x' len' t0' t1' t2' sh' w' b' z' k' c' := by
  obtain rfl : x = x' := funext fun t => funext (hx t)
  obtain rfl : t0 = t0' := funext h0
  obtain rfl : t1 = t1' := funext h1
  obtain rfl : t2 = t2' := funext h2
  obtain rfl : sh = sh' := funext hs
  obtain rfl : w = w' := funext fun k => funext (hw k)
  obtain rfl : b = b' := funext hb
  obtain rfl : z = z' := funext fun k => funext (hz k)
  rw [hlen, hk, hc]

end Cert.Netvlad

end
-- ==== Proof.KernelAt.lean ====
/- The kernel's stored blocks, read at an index: each of the two batches of a grid point is the function `batch` of the
   blocks that the point loads. -/
module

public import Idealize.ShloMosaic.Lib.Pointwise
public import proofs.«01_k».proof.Proof.Layer
public import proofs.«01_k».proof.Proof.Gen.KernelIdeal.Skeleton

@[expose] public section

set_option maxRecDepth 16384

noncomputable section

namespace Cert.Netvlad

open Idealize.ShloMosaic Idealize.ShloMosaic.TcCoe Idealize.SL.Sem
open Cert.KernelIdeal Cert.KernelIdeal.Gen

/-- The named constant is the square of the reference's smallest length. -/
theorem named_eps : Named.named (F := Ideal) κ "eps_norm_sq" (φ := .f32) 0x179ABE15#32 = ((eps * eps : ℝ) : EReal) := by
  have h := IdealRules.named_const.ideal_named_scalar κ "eps_norm_sq" (φ := .f32) 0x179ABE15#32 _ rfl
  rw [h]
  congr 1
  unfold eps
  norm_num

/-! ## The first batch of a grid point -/

theorem rows_at (v0 : FVec Ideal S1x8192x128 .f32) (t : Fin 8192) (c : Fin 128) :
    k0_pay2 (F := Ideal) v0 (ix2 t c) = unit (fun c => v0 (ix3 0 t c)) c := by
  pointwise [k0_pay2]
  rw [named_eps]; rfl

theorem smooth_at (v0 : FVec Ideal S1x8192x128 .f32) (v20 v24 v29 v34 : FVec Ideal S1x128 .bf16) (t : Fin 8192) (c : Fin 128) :
    k0_pay3 (F := Ideal) v0 v20 v24 v29 v34 (ix2 t c)
      = smooth (fun t c => k0_pay2 (F := Ideal) v0 (ix2 t c)) (fun c => v20 (ix2 0 c)) (fun c => v24 (ix2 0 c))
          (fun c => v29 (ix2 0 c)) (fun c => v34 (ix2 0 c)) t c := by
  pointwise [k0_pay3]
  rfl

theorem resid_at (v5 : Elt Ideal .i32) (v14 v39 : FVec Ideal S8192x128 .bf16) (v40 : FVec Ideal S64x128 .bf16)
    (v43 : FVec Ideal S64x1 .f32) (v69 : FVec Ideal S64x128 .f32) (k : Fin 64) (c : Fin 128) :
    k0_pay4 (F := Ideal) v5 v14 v39 v40 v43 v69 (ix2 k c)
      = unit (resid (fun t c => v14 (ix2 t c)) (soft (score (fun t c => v39 (ix2 t c)) v5 (fun k c => v40 (ix2 k c))
          (fun k => v43 (ix2 k 0)))) (fun k c => v69 (ix2 k c)) k) c := by
  pointwise [k0_pay4]
  rw [named_eps, ofBits_clamp]; rfl

theorem store_at (v80 : FVec Ideal S64x128 .f32) (v84 : FVec Ideal S1x1x1 .f32) (z : Fin 1) (k : Fin 64) (c : Fin 128) :
    k0_pay6 (F := Ideal) v80 v84 (ix3 z k c)
      = v80 (ix2 k c) * Ideal.rsqrt (max (v84 (ix3 0 0 0)) ((eps * eps : ℝ) : EReal)) := by
  pointwise [k0_pay6]
  rw [named_eps]; rfl

theorem total_at (v5 : Elt Ideal .i32) (v14 v39 : FVec Ideal S8192x128 .bf16) (v40 : FVec Ideal S64x128 .bf16)
    (v43 : FVec Ideal S64x1 .f32) (v69 : FVec Ideal S64x128 .f32) :
    k0_pay5 (F := Ideal) v5 v14 v39 v40 v43 v69 (ix3 0 0 0)
      = ∑ i : Fin 64, ∑ j : Fin 128, (show EReal from k0_pay4 (F := Ideal) v5 v14 v39 v40 v43 v69 (ix2 i j))
          * k0_pay4 (F := Ideal) v5 v14 v39 v40 v43 v69 (ix2 i j) := by
  pointwise [k0_pay5]

/-- The first store of a grid point. -/
theorem first_at (v5 : Elt Ideal .i32) (v0 : FVec Ideal S1x8192x128 .f32) (v20 v24 v29 v34 : FVec Ideal S1x128 .bf16)
    (v40 : FVec Ideal S64x128 .bf16) (v43 : FVec Ideal S64x1 .f32) (v69 : FVec Ideal S64x128 .f32) (z : Fin 1) (k : Fin 64)
    (c : Fin 128) :
    k0_pay6 (F := Ideal) (k0_pay4 (F := Ideal) v5 (k0_pay2 (F := Ideal) v0) (k0_pay3 (F := Ideal) v0 v20 v24 v29 v34) v40 v43 v69)
        (k0_pay5 (F := Ideal) v5 (k0_pay2 (F := Ideal) v0) (k0_pay3 (F := Ideal) v0 v20 v24 v29 v34) v40 v43 v69) (ix3 z k c)
      = batch (fun t c => v0 (ix3 0 t c)) v5 (fun c => v20 (ix2 0 c)) (fun c => v24 (ix2 0 c)) (fun c => v29 (ix2 0 c))
          (fun c => v34 (ix2 0 c)) (fun k c => v40 (ix2 k c)) (fun k => v43 (ix2 k 0)) (fun k c => v69 (ix2 k c)) k c := by
  rw [store_at, total_at]
  simp only [resid_at, smooth_at, rows_at]
  rfl

/-! ## The second batch of a grid point: the same computation, cut at other places -/

theorem rows_at' (v93 : FVec Ideal S1x8192x128 .f32) (t : Fin 8192) (c : Fin 128) :
    k0_pay7 (F := Ideal) v93 (ix2 t c) = unit (fun c => v93 (ix3 0 t c)) c := by
  pointwise [k0_pay7]
  rw [named_eps]; rfl

theorem resid_at' (v98 : Elt Ideal .i32) (v107 v121 v125 : FVec Ideal S8192x128 .bf16) (v127 : FVec Ideal S1x128 .bf16)
    (v133 : FVec Ideal S64x128 .bf16) (v136 : FVec Ideal S64x1 .f32) (v162 : FVec Ideal S64x128 .f32) (k : Fin 64) (c : Fin 128) :
    k0_pay11 (F := Ideal) v98 v107 v121 v125 v127 v133 v136 v162 (ix2 k c)
      = resid (fun t c => v107 (ix2 t c)) (soft (score (fun t c => max (v121 (ix2 t c) + v125 (ix2 t c) + v127 (ix2 0 c)) 0)
          v98 (fun k c => v133 (ix2 k c)) (fun k => v136 (ix2 k 0)))) (fun k c => v162 (ix2 k c)) k c := by
  pointwise [k0_pay11]
  rw [ofBits_clamp]; rfl

theorem length_at' (v98 : Elt Ideal .i32) (v107 v121 v125 : FVec Ideal S8192x128 .bf16) (v127 : FVec Ideal S1x128 .bf16)
    (v133 : FVec Ideal S64x128 .bf16) (v136 : FVec Ideal S64x1 .f32) (v162 : FVec Ideal S64x128 .f32) (k : Fin 64) :
    k0_pay12 (F := Ideal) v98 v107 v121 v125 v127 v133 v136 v162 (ix1 k)
      = ∑ j : Fin 128, (show EReal from k0_pay11 (F := Ideal) v98 v107 v121 v125 v127 v133 v136 v162 (ix2 k j))
          * k0_pay11 (F := Ideal) v98 v107 v121 v125 v127 v133 v136 v162 (ix2 k j) := by
  pointwise [k0_pay12]

theorem taps_at' (v93 : FVec Ideal S1x8192x128 .f32) (v113 v117 v122 v127 : FVec Ideal S1x128 .bf16) (t : Fin 8192) (c : Fin 128) :
    max ((show EReal from k0_pay9 (F := Ideal) v93 v113 v117 (ix2 t c)) + k0_pay10 (F := Ideal) v93 v122 (ix2 t c) + v127 (ix2 0 c)) 0
      = smooth (fun t c => k0_pay7 (F := Ideal) v93 (ix2 t c)) (fun c => v113 (ix2 0 c)) (fun c => v117 (ix2 0 c))
          (fun c => v122 (ix2 0 c)) (fun c => v127 (ix2 0 c)) t c := by
  pointwise [k0_pay9, k0_pay10, k0_pay8]
  rfl

theorem store_at' (v165 : FVec Ideal S64x128 .f32) (v167 : FVec Ideal S64 .f32)
    (h : ∀ k : Fin 64, v167 (ix1 k) = ∑ j : Fin 128, (show EReal from v165 (ix2 k j)) * v165 (ix2 k j))
    (z : Fin 1) (k : Fin 64) (c : Fin 128) :
    k0_pay1 (F := Ideal) v165 v167 (ix3 z k c) = twice (fun k c => v165 (ix2 k c)) k c := by
  pointwise [k0_pay1]
  simp only [h, named_eps]; rfl

/-- The second store of a grid point. -/
theorem second_at (v98 : Elt Ideal .i32) (v93 : FVec Ideal S1x8192x128 .f32) (v113 v117 v122 v127 : FVec Ideal S1x128 .bf16)
    (v133 : FVec Ideal S64x128 .bf16) (v136 : FVec Ideal S64x1 .f32) (v162 : FVec Ideal S64x128 .f32) (z : Fin 1) (k : Fin 64)
    (c : Fin 128) :
    k0_pay1 (F := Ideal)
        (k0_pay11 (F := Ideal) v98 (k0_pay7 (F := Ideal) v93) (k0_pay9 (F := Ideal) v93 v113 v117) (k0_pay10 (F := Ideal) v93 v122) v127 v133 v136 v162)
        (k0_pay12 (F := Ideal) v98 (k0_pay7 (F := Ideal) v93) (k0_pay9 (F := Ideal) v93 v113 v117) (k0_pay10 (F := Ideal) v93 v122) v127 v133 v136 v162)
        (ix3 z k c)
      = batch (fun t c => v93 (ix3 0 t c)) v98 (fun c => v113 (ix2 0 c)) (fun c => v117 (ix2 0 c)) (fun c => v122 (ix2 0 c))
          (fun c => v127 (ix2 0 c)) (fun k c => v133 (ix2 k c)) (fun k => v136 (ix2 k 0)) (fun k c => v162 (ix2 k c)) k c := by
  rw [store_at' _ _ (length_at' _ _ _ _ _ _ _ _)]
  simp only [resid_at', taps_at', rows_at']
  rfl

end Cert.Netvlad

end
-- ==== Proof.KernelValue.lean ====
/- The kernel's result array: what its eight grid points leave in it, block by block, is the function `batch` of the
   arrays that the windows stage, and those arrays are the arguments and what the host computes from them. -/
module

public import proofs.«01_k».proof.Proof.KernelAt
public import proofs.«01_k».proof.Proof.Gen.KernelIdeal.Frame
public import Idealize.ShloMosaic.Lib.Pipeline.ValueKit

@[expose] public section

set_option maxRecDepth 16384

noncomputable section

namespace Cert.Netvlad

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where the windows' blocks sit, at every grid point. -/
theorem idx_val : ∀ t : Fin cfg0.N, win0_0.index t = ![0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] :=
  (by decide +kernel : ∀ t : Fin grid0.N, _)

/-- The words of `length` that a grid point reads are those of its two batches. -/
theorem off_val : ∀ t : Fin cfg0.N, k0_off1 (grid0.coords t) 0#32 0 = t.val * 2 ∧ k0_off1 (grid0.coords t) 1#32 0 = t.val * 2 + 1 :=
  (by decide +kernel : ∀ t : Fin grid0.N, _)

/-- The result array as a function of the arrays that the windows stage. -/
def result (L : IVec S16 32) (X : FVec Ideal S16x8192x128 .f32) (T : FVec Ideal S3x128 .bf16) (H : FVec Ideal S1x128 .bf16)
    (W : FVec Ideal S64x128 .bf16) (B : FVec Ideal S64x1 .f32) (Z : FVec Ideal S64x128 .f32) : FVec Ideal S16x64x128 .f32 :=
  fun j => batch (fun t c => X (ix3 (j 0) t c)) (L (ix1 (j 0))) (fun c => T (ix2 0 c)) (fun c => T (ix2 1 c))
    (fun c => T (ix2 2 c)) (fun c => H (ix2 0 c)) (fun k c => W (ix2 k c)) (fun k => B (ix2 k 0)) (fun k c => Z (ix2 k c))
    (j 1) (j 2)

/-- What the body of grid point `t` leaves in the output block, at the array index that the block index sits at. -/
theorem point (c : Dev nD) (t : Fin cfg0.N) (y) :
    outsAt0 m c t y = result (V m c main_arg13) (V m c main_arg0) (V m c main_v14) (V m c main_v7) (V m c main_v23)
        (V m c main_v28) (V m c main_arg12) (((cfg0.win 7).blk t).view.emb y) := by
  unfold outsAt0
  frame_out
  canon_tiles x h
  · idx_vars x
    refine (second_at _ _ _ _ _ _ _ _ _ _ _ _).trans ?_
    refine batch_congr (fun t' c' => ?_) ?_ (fun c' => ?_) (fun c' => ?_) (fun c' => ?_) (fun c' => ?_) (fun k' c' => ?_)
      (fun k' => ?_) (fun k' c' => ?_) (Fin.ext ?_) (Fin.ext ?_)
    case refine_2 =>
      pointwise
      blk_point [iblk, idx_val t]
      rw [(off_val t).2]
      omega
    case refine_10 | refine_11 =>
      blk_simp [idx_val t]
      omega
    all_goals first
      | (pointwise; blk_point [iblk, idx_val t]; done)
      | (blk_point [iblk, idx_val t]; done)
  · idx_vars x
    refine (first_at _ _ _ _ _ _ _ _ _ _ _ _).trans ?_
    refine batch_congr (fun t' c' => ?_) ?_ (fun c' => ?_) (fun c' => ?_) (fun c' => ?_) (fun c' => ?_) (fun k' c' => ?_)
      (fun k' => ?_) (fun k' c' => ?_) (Fin.ext ?_) (Fin.ext ?_)
    case refine_2 =>
      pointwise
      blk_point [iblk, idx_val t]
      rw [(off_val t).1]
      omega
    case refine_10 | refine_11 =>
      blk_simp [idx_val t]
      omega
    all_goals first
      | (pointwise; blk_point [iblk, idx_val t]; done)
      | (blk_point [iblk, idx_val t]; done)

/-- The result array after all grid points. -/
theorem final (c : Dev nD) : (dats m 0 c).arrAt 7 (cfgs 0).N
    = result (V m c main_arg13) (V m c main_arg0) (V m c main_v14) (V m c main_v7) (V m c main_v23)
        (V m c main_v28) (V m c main_arg12) := by
  refine (dats m 0 c).arrAt_eq_of_covers 7 _ (by decide +kernel) fun t _ y => ?_
  blk_simp
  rw [after0_7]
  exact point m c t y

end Cert.Netvlad

end
-- ==== Proof.Data.lean ====
/-
  The arguments as plain functions of their coordinates, and the two forms of the layer over them: the kernel's, with the
  batch normalisations folded into the weights and biases, and the reference's, with each step as the problem states it.
-/
module

public import proofs.«01_k».proof.Proof.Layer

@[expose] public section

set_option maxRecDepth 16384

noncomputable section

namespace Cert.Netvlad

open Idealize.ShloMosaic

/-- The arguments. -/
structure Data where
  /-- the descriptors: batch entry, place, channel -/
  x : Fin 16 → Fin 8192 → Fin 128 → EReal
  /-- the smoothing filter: channel, row, column -/
  taps : Fin 128 → Fin 3 → Fin 3 → EReal
  /-- weight, offset, mean and variance of the first batch normalisation -/
  g1 : Fin 128 → EReal
  b1 : Fin 128 → EReal
  m1 : Fin 128 → EReal
  v1 : Fin 128 → EReal
  /-- weights and biases of the classifier -/
  w2 : Fin 64 → Fin 128 → EReal
  c2 : Fin 64 → EReal
  /-- weight, offset, mean and variance of the second batch normalisation -/
  g2 : Fin 64 → EReal
  b2 : Fin 64 → EReal
  m2 : Fin 64 → EReal
  v2 : Fin 64 → EReal
  /-- the cluster centres -/
  z : Fin 64 → Fin 128 → EReal
  /-- how many places of each batch entry count -/
  len : Fin 16 → BitVec 32

/-- A variance plus the small constant of the batch normalisations. -/
def spread (v : EReal) : EReal := v + Ideal.ofBits .f32 925353388#32

/-- The gain of a batch normalisation: its weight over the square root of its spread. -/
def gain (g v : EReal) : EReal := g * Ideal.rsqrt (spread v)

/-- Division by the square root of the spread, as the reference writes it. -/
def over (g v : EReal) : EReal := Ideal.div g (Ideal.sqrt (spread v))

/-- The kernel's result. -/
def Data.folded (d : Data) (n : Fin 16) (k : Fin 64) (c : Fin 128) : EReal :=
  batch (d.x n) (d.len n) (fun i => d.taps i 0 1 * gain (d.g1 i) (d.v1 i)) (fun i => d.taps i 1 1 * gain (d.g1 i) (d.v1 i))
    (fun i => d.taps i 2 1 * gain (d.g1 i) (d.v1 i)) (fun i => d.b1 i - d.m1 i * gain (d.g1 i) (d.v1 i))
    (fun k i => d.w2 k i * gain (d.g2 k) (d.v2 k))
    (fun k => d.c2 k * gain (d.g2 k) (d.v2 k) + d.b2 k - d.m2 k * gain (d.g2 k) (d.v2 k)) d.z k c

/-- A vector divided by its Euclidean length, the length not below the small constant. -/
def unitDiv {n : ℕ} (v : Fin n → EReal) (i : Fin n) : EReal :=
  Ideal.div (v i) (max (Ideal.sqrt (∑ j, v j * v j)) (eps : EReal))

/-- The descriptors with one column of nothing on either side. -/
def padded (x : Fin 8192 → Fin 128 → EReal) (t : ℕ) (i : Fin 128) (q : Fin 3) : EReal :=
  if h : 1 ≤ t ∧ t - 1 < 8192 ∧ (q : ℕ) = 1 then x ⟨t - 1, h.2.1⟩ i else 0

/-- The smoothing filter as the reference has it, nine products, times the gain. -/
def Data.filtered (d : Data) (n : Fin 16) (t : Fin 8192) (i : Fin 128) : EReal :=
  let p := fun (r q : Fin 3) => padded (fun t => unitDiv (d.x n t)) ((r : ℕ) + t) i q * d.taps i r q
  (p 0 0 + p 0 1 + p 0 2 + p 1 0 + p 1 1 + p 1 2 + p 2 0 + p 2 1 + p 2 2) * over (d.g1 i) (d.v1 i)

/-- The smoothing layer as the reference has it: the filter, the shift, the rectifier. -/
def Data.hidden (d : Data) (n : Fin 16) (t : Fin 8192) (i : Fin 128) : EReal :=
  max (d.filtered n t i + (d.b1 i - over (d.m1 i * d.g1 i) (d.v1 i))) 0

/-- The classifier's score as the reference has it: the sum, the normalisation, the rectifier. -/
def Data.raw (d : Data) (n : Fin 16) (k : Fin 64) (t : Fin 8192) : EReal :=
  max ((∑ i, d.w2 k i * d.hidden n t i + d.c2 k) * over (d.g2 k) (d.v2 k)
    + (d.b2 k - over (d.m2 k * d.g2 k) (d.v2 k))) 0

/-- The score with the places that do not count at the fill. -/
def Data.masked (d : Data) (n : Fin 16) (k : Fin 64) (t : Fin 8192) : EReal :=
  Scalar.select (counts (d.len n) t) (d.raw n k t) (Ideal.ofBits .f32 3713928043#32)

/-- The soft assignment as the reference has it: the scores less their greatest, exponentials, over their sum. -/
def Data.assign (d : Data) (M : Fin 16 → Fin 8192 → EReal) (n : Fin 16) (k : Fin 64) (t : Fin 8192) : EReal :=
  Ideal.div (Ideal.exp (d.masked n k t - M n t)) (∑ k, Ideal.exp (d.masked n k t - M n t))

/-- The residuals gathered per cluster, then each cluster's normalised. -/
def Data.gathered (d : Data) (M : Fin 16 → Fin 8192 → EReal) (n : Fin 16) (k : Fin 64) (c : Fin 128) : EReal :=
  ∑ t, d.assign M n k t * unitDiv (d.x n t) c - (∑ t, d.assign M n k t) * d.z k c

/-- The reference's result at a cluster and a channel, over both. -/
def Data.stated (d : Data) (M : Fin 16 → Fin 8192 → EReal) (n : Fin 16) (k : Fin 64) (c : Fin 128) : EReal :=
  Ideal.div (unitDiv (d.gathered M n k) c)
    (max (Ideal.sqrt (∑ i, ∑ j, unitDiv (d.gathered M n i) j * unitDiv (d.gathered M n i) j)) (eps : EReal))

end Cert.Netvlad

end
-- ==== Proof.KernelRun.lean ====
/-
  The launch of the kernel: the operands the host prepares before the launch, read at an index (the folded taps, shift,
  classifier and bias), and the contents of the result after the launch and the last reshape, read at an index.
-/
module

public import proofs.«01_k».proof.Proof.KernelValue
public import proofs.«01_k».proof.Proof.Data
public import Idealize.ShloMosaic.Lib.Claim

@[expose] public section

set_option maxRecDepth 16384

noncomputable section

namespace Cert.Netvlad

open Idealize.ShloMosaic Idealize.ShloMosaic.TcCoe Idealize.SL.Sem
open Cert.KernelIdeal Cert.KernelIdeal.Gen

variable (m : (ℓ : Loc nD τ sig) → Buf (Elt Ideal) ℓ)

/-- The kernel's arguments as plain functions. -/
def dataOf (c : Dev nD) : Data where
  x := fun n t i => m ((c : Thread nD τ).loc main_arg0) (ix3 n t i)
  taps := fun i r q => m ((c : Thread nD τ).loc main_arg1) (ix4 i 0 r q)
  g1 := fun i => m ((c : Thread nD τ).loc main_arg2) (ix1 i)
  b1 := fun i => m ((c : Thread nD τ).loc main_arg3) (ix1 i)
  m1 := fun i => m ((c : Thread nD τ).loc main_arg4) (ix1 i)
  v1 := fun i => m ((c : Thread nD τ).loc main_arg5) (ix1 i)
  w2 := fun k i => m ((c : Thread nD τ).loc main_arg6) (ix4 k i 0 0)
  c2 := fun k => m ((c : Thread nD τ).loc main_arg7) (ix1 k)
  g2 := fun k => m ((c : Thread nD τ).loc main_arg8) (ix1 k)
  b2 := fun k => m ((c : Thread nD τ).loc main_arg9) (ix1 k)
  m2 := fun k => m ((c : Thread nD τ).loc main_arg10) (ix1 k)
  v2 := fun k => m ((c : Thread nD τ).loc main_arg11) (ix1 k)
  z := fun k i => m ((c : Thread nD τ).loc main_arg12) (ix2 k i)
  len := fun n => m ((c : Thread nD τ).loc main_arg13) (ix1 n)

/-- Three taps of the smoothing filter, each times its channel's gain. -/
theorem taps_read (c : Dev nD) (i : Fin 3) (j : Fin 128) :
    V m c main_v14 (ix2 i j) = (dataOf m c).taps j i 1
      * gain ((dataOf m c).g1 j) ((dataOf m c).v1 j) := by
  unfold V V0
  rw [show [hostOps0 (F := Ideal)].flatten = hostOps0 from List.append_nil _]
  after_results
  pointwise
  rfl

/-- The shift of the smoothing layer: the offset less the mean times the gain. -/
theorem shift_read (c : Dev nD) (j : Fin 128) :
    V m c main_v7 (ix2 0 j) = (dataOf m c).b1 j
      - (dataOf m c).m1 j
        * gain ((dataOf m c).g1 j) ((dataOf m c).v1 j) := by
  unfold V V0
  rw [show [hostOps0 (F := Ideal)].flatten = hostOps0 from List.append_nil _]
  after_results
  pointwise
  rfl

/-- The classifier's weights, each times its cluster's gain. -/
theorem weight_read (c : Dev nD) (k : Fin 64) (j : Fin 128) :
    V m c main_v23 (ix2 k j) = (dataOf m c).w2 k j
      * gain ((dataOf m c).g2 k) ((dataOf m c).v2 k) := by
  unfold V V0
  rw [show [hostOps0 (F := Ideal)].flatten = hostOps0 from List.append_nil _]
  after_results
  pointwise
  rfl

/-- The classifier's bias with the batch normalisation folded in. -/
theorem bias_read (c : Dev nD) (k : Fin 64) :
    V m c main_v28 (ix2 k 0) = (dataOf m c).c2 k
        * gain ((dataOf m c).g2 k) ((dataOf m c).v2 k)
      + (dataOf m c).b2 k
      - (dataOf m c).m2 k
        * gain ((dataOf m c).g2 k) ((dataOf m c).v2 k) := by
  unfold V V0
  rw [show [hostOps0 (F := Ideal)].flatten = hostOps0 from List.append_nil _]
  after_results
  pointwise
  rfl

/-- The kernel's result: the launch's array, laid out flat. -/
def kernelOut (c : Dev nD) : FVec Ideal S16x8192 .f32 :=
  shapeCast S16x8192 (result (m ((c : Thread nD τ).loc main_arg13)) (m ((c : Thread nD τ).loc main_arg0))
    (V m c main_v14) (V m c main_v7) (V m c main_v23) (V m c main_v28) (m ((c : Thread nD τ).loc main_arg12)))
    shapeCasts_S16x64x128_S16x8192

/-- After the launch and the last reshape, the result buffer holds `kernelOut`. -/
theorem tail_read (c : Dev nD) :
    Pipeline.afterTail₀ cfgs (dats m) 0 (V0 m) [hostOps1] c main_v30 = kernelOut m c := by
  unfold Pipeline.afterTail₀
  rw [show [hostOps1 (F := Ideal)].flatten = hostOps1 from List.append_nil _]
  after_results
  have h : Pipeline.withArrays (cfgs 0).spec c (V0 m c) (fun w => (dats m 0 c).arrAt w (cfgs 0).N)
      (Proc.tc.devRef main_v29) = (dats m 0 c).arrAt 7 (cfgs 0).N :=
    Pipeline.withArrays_arr (cfgs 0).spec launch0.win.arr_inj c (V0 m c)
      (fun w => (dats m 0 c).arrAt w (cfgs 0).N) 7
  rw [h, final m c, V_main_arg13, V_main_arg0, V_main_arg12]
  rfl

/-- The kernel's result at batch entry `n` and flat position `j`, from the argument arrays. -/
theorem kernelOut_at (c : Dev nD) (n : Fin 16) (j : Fin 8192) :
    kernelOut m c (ix2 n j)
      = (dataOf m c).folded n ⟨(j : ℕ) / 128, by omega⟩ ⟨(j : ℕ) % 128, by omega⟩ := by
  have h : kernelOut m c (ix2 n j)
      = result (m ((c : Thread nD τ).loc main_arg13)) (m ((c : Thread nD τ).loc main_arg0))
        (V m c main_v14) (V m c main_v7) (V m c main_v23) (V m c main_v28) (m ((c : Thread nD τ).loc main_arg12))
        (ix3 n ⟨(j : ℕ) / 128, by omega⟩ ⟨(j : ℕ) % 128, by omega⟩) := by
    unfold kernelOut
    pointwise
  rw [h, Data.folded, result]
  exact batch_congr (fun _ _ => rfl) rfl (fun i => taps_read m c 0 i) (fun i => taps_read m c 1 i)
    (fun i => taps_read m c 2 i) (fun i => shift_read m c i) (fun k i => weight_read m c k i) (fun k => bias_read m c k)
    (fun _ _ => rfl) rfl rfl

/-- The kernel runs, and leaves `kernelOut` in its result buffer. -/
theorem kernel_out (g : Dev nD → PrngReg) : θ_run defs (onTc (τ := τ) (main (F := Ideal))) ⟨m, fun _ => 0, g⟩
    (fun r => ∀ c : Dev nD, r.2.mem ((c : Thread nD τ).loc main_v30) = kernelOut m c) := by
  refine (θ_run defs _ _).mono (fun r h c => ?_) (run_main m g)
  exact ((h c).2 main_v30 (Pipeline.mem_restRefs_of main_v30 (by decide) (by decide))).trans (tail_read m c)

end Cert.Netvlad

end
-- ==== Proof.RefAt.lean ====
/-
  The reference, read at an index: every named intermediate of it is the function of the arguments' coordinates that
  `Data` names.
-/
module

public import Idealize.ShloMosaic.Lib.Pointwise
public import proofs.«01_k».proof.Proof.Data
public import proofs.«01_k».proof.Proof.Gen.ReferenceIdeal.Run

@[expose] public section

set_option maxRecDepth 16384

noncomputable section

namespace Cert.Netvlad

open Idealize.ShloMosaic Idealize.ShloMosaic.TcCoe Idealize.SL.Sem
open Cert.ReferenceIdeal Cert.ReferenceIdeal.Gen Cert.ReferenceIdeal.Value

variable (V0 : Valuation τ sig (Elt Ideal))

/-- The reference's arguments as plain functions. -/
def refData : Data where
  x := fun n t i => V0 (Proc.tc.devRef main_arg0) (ix3 n t i)
  taps := fun i r q => V0 (Proc.tc.devRef main_arg1) (ix4 i 0 r q)
  g1 := fun i => V0 (Proc.tc.devRef main_arg2) (ix1 i)
  b1 := fun i => V0 (Proc.tc.devRef main_arg3) (ix1 i)
  m1 := fun i => V0 (Proc.tc.devRef main_arg4) (ix1 i)
  v1 := fun i => V0 (Proc.tc.devRef main_arg5) (ix1 i)
  w2 := fun k i => V0 (Proc.tc.devRef main_arg6) (ix4 k i 0 0)
  c2 := fun k => V0 (Proc.tc.devRef main_arg7) (ix1 k)
  g2 := fun k => V0 (Proc.tc.devRef main_arg8) (ix1 k)
  b2 := fun k => V0 (Proc.tc.devRef main_arg9) (ix1 k)
  m2 := fun k => V0 (Proc.tc.devRef main_arg10) (ix1 k)
  v2 := fun k => V0 (Proc.tc.devRef main_arg11) (ix1 k)
  z := fun k i => V0 (Proc.tc.devRef main_arg12) (ix2 k i)
  len := fun n => V0 (Proc.tc.devRef main_arg13) (ix1 n)

/-- The normalised descriptors, laid out as an image of one column. -/
theorem image_at (n : Fin 16) (c : Fin 128) (t : Fin 8192) :
    @Eq EReal (res_main_v6 V0 (ix4 n c t 0)) (unitDiv ((refData V0).x n t) c) := by
  pointwise [res_main_v6, res_main_v1]
  simp only [unitDiv, ofBits_eps, refData]

/-- The image with a border. -/
theorem border_at (n : Fin 16) (c : Fin 128) (t : Fin 8194) (q : Fin 3) :
    @Eq EReal (res_main_v7 V0 (ix4 n c t q)) (padded (fun t => unitDiv ((refData V0).x n t)) t c q) := by
  pointwise [res_main_v7]
  unfold padded
  have h0 : @Eq EReal (FloatOps.sitofp (F := Ideal) .f32 (0#32)) 0 := by
    show (((0#32 : BitVec 32).toInt : ℝ) : EReal) = 0
    norm_num
  have hq := q.isLt
  by_cases h : 1 ≤ (t : ℕ) ∧ (t : ℕ) - 1 < 8192 ∧ (q : ℕ) = 1
  · rw [dif_pos h, dif_pos]
    · obtain rfl : q = 1 := Fin.ext h.2.2
      exact image_at V0 n c ⟨(t : ℕ) - 1, h.2.1⟩
    · intro a
      match a with
      | ⟨0, _⟩ => exact ⟨Nat.zero_le _, Nat.mod_one _, by show (n : ℕ) / 1 < 16; omega⟩
      | ⟨1, _⟩ => exact ⟨Nat.zero_le _, Nat.mod_one _, by show (c : ℕ) / 1 < 128; omega⟩
      | ⟨2, _⟩ => exact ⟨h.1, Nat.mod_one _, by show ((t : ℕ) - 1) / 1 < 8192; omega⟩
      | ⟨3, _⟩ => exact ⟨by show 1 ≤ (q : ℕ); omega, Nat.mod_one _, by show ((q : ℕ) - 1) / 1 < 1; omega⟩
  · rw [dif_neg h, dif_neg]
    · exact h0
    · intro e
      have e2 := e ⟨2, by decide⟩
      have e3 := e ⟨3, by decide⟩
      have a1 : 1 ≤ (t : ℕ) := e2.1
      have a2 : ((t : ℕ) - 1) / 1 < 8192 := e2.2.2
      have a3 : 1 ≤ (q : ℕ) := e3.1
      have a4 : ((q : ℕ) - 1) / 1 < 1 := e3.2.2
      omega

/-- The smoothing filter's output, times the gain. -/
theorem filtered_at (n : Fin 16) (c : Fin 128) (t : Fin 8192) :
    @Eq EReal (res_main_v78 V0 (ix4 n c t 0)) ((refData V0).filtered n t c) := by
  pointwise [res_main_v78]
  simp only [border_at, Data.filtered, Fin.val_zero, Fin.val_one, Fin.val_two, zero_add]
  rfl

/-- The score with the places that do not count at the fill. -/
theorem masked_at (n : Fin 16) (k : Fin 64) (t : Fin 8192) :
    @Eq EReal (res_main_v120 V0 (ix3 n k t)) ((refData V0).masked n k t) := by
  pointwise [res_main_v120]
  simp only [filtered_at]
  rfl

end Cert.Netvlad

end
-- ==== Proof.RefSoft.lean ====
/-
  The second half of the reference, read at an index: the soft assignment over the clusters, the gathered residuals and
  the two normalisations.
-/
module

public import Idealize.ShloMosaic.Lib.Pointwise
public import proofs.«01_k».proof.Proof.RefAt

@[expose] public section

set_option maxRecDepth 16384

noncomputable section

namespace Cert.Netvlad

open Idealize.ShloMosaic Idealize.ShloMosaic.TcCoe Idealize.SL.Sem
open Cert.ReferenceIdeal Cert.ReferenceIdeal.Gen Cert.ReferenceIdeal.Value

variable (V0 : Valuation τ sig (Elt Ideal))

/-- The greatest entry along the clusters. -/
def peak (x : FVec Ideal S16x64x8192 .f32) : FVec Ideal S16x8192 .f32 :=
  Host.reduce FloatOps.maximumf x (constant S_ .f32 0xFF800000#32) reducesTo_S16x64x8192_S16x8192_d1 h_S_

/-- The greatest entry, as the reference subtracts it. -/
def level (x : FVec Ideal S16x64x8192 .f32) (n : Fin 16) (t : Fin 8192) : EReal :=
  max (Ideal.ofBits .f32 0xFF800000#32) (peak x (ix2 n t))

/-- A running maximum of real numbers from a real number is real. -/
theorem isReal_foldl {ι : Type} (f : ι → EReal) (hf : ∀ i, IsReal (f i)) (l : List ι) (b : EReal) (hb : IsReal b) :
    IsReal (l.foldl (fun r i => max r (f i)) b) := by
  induction l generalizing b with
  | nil => exact hb
  | cons a l ih =>
    refine ih _ ?_
    obtain ⟨p, hp⟩ := hb
    obtain ⟨q, hq⟩ := hf a
    exact ⟨max p q, by show max b (f a) = _; rw [hp, hq, coe_max]⟩

/-- A running maximum of real numbers from below everything, over at least one, is real. -/
theorem isReal_foldl_bot {ι : Type} (f : ι → EReal) (hf : ∀ i, IsReal (f i)) (l : List ι) (hl : l ≠ []) :
    IsReal (l.foldl (fun r i => max r (f i)) ⊥) := by
  cases l with
  | nil => exact absurd rfl hl
  | cons a l =>
    refine isReal_foldl f hf l _ ?_
    show IsReal (max ⊥ (f a))
    rw [max_eq_right bot_le]
    exact hf a

theorem drop_at (n : Fin 16) (t : Fin 8192) : reducesTo_S16x64x8192_S16x8192_d1.drop (ix3 n 0 t) = ix2 n t := by
  funext b
  apply Fin.ext
  match b with
  | ⟨0, _⟩ => rfl
  | ⟨1, _⟩ => rfl

/-- The greatest entry is real when all entries are. -/
theorem level_real (x : FVec Ideal S16x64x8192 .f32) (hx : ∀ i, IsReal (x i)) (n : Fin 16) (t : Fin 8192) :
    IsReal (level x n t) := by
  unfold level peak Host.reduce
  rw [ofBits_bot, max_eq_right bot_le]
  have hb : @Eq EReal (constant (F := Ideal) S_ .f32 0xFF800000#32 (Shape.Idx.first h_S_)) ⊥ := ofBits_bot
  rw [hb]
  refine isReal_foldl_bot _ (fun i => hx _) _ ?_
  intro e
  have h : S16x64x8192.rowMajor (ix3 n 0 t) ∈ (List.finRange S16x64x8192.numel).filter
      (fun i => reducesTo_S16x64x8192_S16x8192_d1.drop (S16x64x8192.rowMajor.symm i) = ix2 n t) := by
    rw [List.mem_filter]
    refine ⟨List.mem_finRange _, ?_⟩
    rw [Equiv.symm_apply_apply, drop_at]
    exact decide_eq_true rfl
  rw [e] at h
  exact absurd h (List.not_mem_nil)

/-- The exponential of the entries less their greatest, over any greatest. -/
theorem exp_shift (x : FVec Ideal S16x64x8192 .f32) (p : FVec Ideal S16x8192 .f32) (n : Fin 16) (k : Fin 64) (t : Fin 8192) :
    @Eq EReal (Host.exp (subf x (broadcastInDim S16x64x8192 ![0, 1, 2] bcast_S16x1x8192_S16x64x8192_0_1_2
      (broadcastInDim S16x1x8192 ![0, 2] bcast_S16x8192_S16x1x8192_0_2 (maximumf (broadcastInDim S16x8192 ![] bcast_S_S16x8192
        (constant S_ .f32 0xFF800000#32)) p)))) (ix3 n k t))
      (Ideal.exp (x (ix3 n k t) - max (Ideal.ofBits .f32 0xFF800000#32) (p (ix2 n t)))) := by
  pointwise

theorem shifted_at (n : Fin 16) (k : Fin 64) (t : Fin 8192) :
    @Eq EReal (res_main_v127 V0 (ix3 n k t))
      (Ideal.exp ((refData V0).masked n k t - level (res_main_v120 V0) n t)) := by
  refine (exp_shift (res_main_v120 V0) (peak (res_main_v120 V0)) n k t).trans ?_
  rw [masked_at]
  rfl

/-- The soft assignment. -/
theorem assign_at (n : Fin 16) (k : Fin 64) (t : Fin 8192) :
    @Eq EReal (res_main_v131 V0 (ix3 n k t)) ((refData V0).assign (level (res_main_v120 V0)) n k t) := by
  pointwise [res_main_v131]
  simp only [shifted_at]
  rfl

/-- The gathered residuals. -/
theorem gathered_at (n : Fin 16) (k : Fin 64) (c : Fin 128) :
    @Eq EReal (res_main_v140 V0 (ix3 n k c)) ((refData V0).gathered (level (res_main_v120 V0)) n k c) := by
  pointwise [res_main_v140]
  simp only [assign_at, image_at]
  rfl

/-- The normalised residuals, laid out flat. -/
theorem flat_at (n : Fin 16) (j : Fin 8192) :
    @Eq EReal (res_main_v146 V0 (ix2 n j)) (unitDiv ((refData V0).gathered (level (res_main_v120 V0)) n
      ⟨(j : ℕ) / 128, by omega⟩) ⟨(j : ℕ) % 128, by omega⟩) := by
  pointwise [res_main_v146]
  simp only [gathered_at, unitDiv, ofBits_eps]

/-- The whole normalised, over any flat array. -/
theorem whole_at (y : FVec Ideal S16x8192 .f32) (n : Fin 16) (j : Fin 8192) :
    @Eq EReal (Host.divf y (broadcastInDim S16x8192 ![0, 1] bcast_S16x1_S16x8192_0_1 (maximumf (Host.sqrt
      (broadcastInDim S16x1 ![0] bcast_S16_S16x1_0 (Host.reduceAdd (mulf y y) (constant S_ .f32 0x00000000#32)
        reducesTo_S16x8192_S16_d1 h_S_))) (broadcastInDim S16x1 ![] bcast_S_S16x1 (constant S_ .f32 0x2B8CBCCC#32)))) (ix2 n j))
      (unitDiv (fun i => y (ix2 n i)) j) := by
  pointwise
  simp only [unitDiv, ofBits_eps]

/-- A flat vector normalised is the table that it lays out, over the table's Euclidean length. -/
theorem flat_norm (g : Fin 64 → Fin 128 → EReal) (j : Fin 8192) :
    unitDiv (fun i : Fin 8192 => g ⟨(i : ℕ) / 128, by omega⟩ ⟨(i : ℕ) % 128, by omega⟩) j
      = Ideal.div (g ⟨(j : ℕ) / 128, by omega⟩ ⟨(j : ℕ) % 128, by omega⟩)
          (max (Ideal.sqrt (∑ i, ∑ l, g i l * g i l)) (eps : EReal)) := by
  unfold unitDiv
  have h : ∑ i : Fin 8192, g ⟨(i : ℕ) / 128, by omega⟩ ⟨(i : ℕ) % 128, by omega⟩ * g ⟨(i : ℕ) / 128, by omega⟩ ⟨(i : ℕ) % 128, by omega⟩
      = ∑ i, ∑ l, g i l * g i l := by
    refine (Fin.sum_univ_tiles 64 128 rfl _).trans ?_
    refine Finset.sum_congr rfl fun a _ => Finset.sum_congr rfl fun b _ => ?_
    have e1 : ∀ p, (⟨((a : ℕ) * 128 + b) / 128, p⟩ : Fin 64) = a := fun p => Fin.ext (by simp only []; omega)
    have e2 : ∀ p, (⟨((a : ℕ) * 128 + b) % 128, p⟩ : Fin 128) = b := fun p => Fin.ext (by simp only []; omega)
    simp only [e1, e2]
  rw [h]

/-- The reference's result at batch entry `n` and flat position `j`. -/
theorem reference_at (n : Fin 16) (j : Fin 8192) :
    @Eq EReal (Host.divf (res_main_v146 V0) (broadcastInDim S16x8192 ![0, 1] bcast_S16x1_S16x8192_0_1 (maximumf (Host.sqrt
      (broadcastInDim S16x1 ![0] bcast_S16_S16x1_0 (Host.reduceAdd (mulf (res_main_v146 V0) (res_main_v146 V0))
        (constant S_ .f32 0x00000000#32) reducesTo_S16x8192_S16_d1 h_S_))) (broadcastInDim S16x1 ![] bcast_S_S16x1
          (constant S_ .f32 0x2B8CBCCC#32)))) (ix2 n j))
      ((refData V0).stated (level (res_main_v120 V0)) n ⟨(j : ℕ) / 128, by omega⟩ ⟨(j : ℕ) % 128, by omega⟩) := by
  refine (whole_at (res_main_v146 V0) n j).trans ?_
  refine (congrArg (fun f => unitDiv f j) (funext fun i => flat_at V0 n i)).trans ?_
  exact flat_norm (fun i l => unitDiv ((refData V0).gathered (level (res_main_v120 V0)) n i) l) j

end Cert.Netvlad

end
-- ==== Proof.PreAt.lean ====
/-
  The precondition, read at an index.
-/
module

public import Idealize.ShloMosaic.Lib.Pointwise
public import proofs.«01_k».proof.Proof.Data
public import proofs.«01_k».proof.Pre_tame
public import proofs.«01_k».proof.Proof.Gen.Pre_tame

@[expose] public section

set_option maxRecDepth 16384

noncomputable section

namespace Cert.Netvlad

open Idealize.ShloMosaic Idealize.ShloMosaic.TcCoe Idealize.SL.Sem
open Cert.Pre_tame Cert.Pre_tame.Gen

variable (a0 : FVec Ideal S16x8192x128 .f32) (a1 : FVec Ideal S128x1x3x3 .f32) (a2 : FVec Ideal S128 .f32) (a3 : FVec Ideal S128 .f32) (a4 : FVec Ideal S128 .f32) (a5 : FVec Ideal S128 .f32) (a6 : FVec Ideal S64x128x1x1 .f32) (a7 : FVec Ideal S64 .f32) (a8 : FVec Ideal S64 .f32) (a9 : FVec Ideal S64 .f32) (a10 : FVec Ideal S64 .f32) (a11 : FVec Ideal S64 .f32) (a12 : FVec Ideal S64x128 .f32) (a13 : IVec S16 32)

/-- Argument arrays as plain functions. -/
def arrData : Data where
  x := fun n t i => a0 (ix3 n t i)
  taps := fun i r q => a1 (ix4 i 0 r q)
  g1 := fun i => a2 (ix1 i)
  b1 := fun i => a3 (ix1 i)
  m1 := fun i => a4 (ix1 i)
  v1 := fun i => a5 (ix1 i)
  w2 := fun k i => a6 (ix4 k i 0 0)
  c2 := fun k => a7 (ix1 k)
  g2 := fun k => a8 (ix1 k)
  b2 := fun k => a9 (ix1 k)
  m2 := fun k => a10 (ix1 k)
  v2 := fun k => a11 (ix1 k)
  z := fun k i => a12 (ix2 k i)
  len := fun n => a13 (ix1 n)

theorem ofBool_one (p : Prop) [Decidable p] (h : BitVec.ofBool (decide p) = 1#1) : p := by
  by_contra e
  rw [decide_eq_false e] at h
  exact absurd h (by decide)

theorem andi_one (p q : Prop) [Decidable p] [Decidable q]
    (h : IntOp.andi (BitVec.ofBool (decide p)) (BitVec.ofBool (decide q)) = 1#1) : p ∧ q := by
  by_cases hp : p <;> by_cases hq : q
  · exact ⟨hp, hq⟩
  all_goals
    exfalso
    revert h
    simp only [hp, hq, decide_true, decide_false]
    decide

theorem isReal_absf (x : EReal) (h : FloatOps.absf (F := Ideal) (φ := .f32) x < Ideal.ofBits .f32 2139095040#32) : IsReal x := by
  refine isReal_of_abs_lt ?_
  have e : Ideal.ofBits .f32 2139095040#32 = ⊤ := ofBits_top
  rw [e] at h
  exact h

/-- The middle column of the smoothing filter is real. -/
theorem pre_taps (h : (Cert.Pre_tame.fn (F := Ideal) a0 a1 a2 a3 a4 a5 a6 a7 a8 a9 a10 a11 a12 a13).2.1 = fun _ => 1#1) (i : Fin 128) (r : Fin 3) : IsReal (a1 (ix4 i 0 r 1)) := by
  have e : (Cert.Pre_tame.fn (F := Ideal) a0 a1 a2 a3 a4 a5 a6 a7 a8 a9 a10 a11 a12 a13).2.1 (ix2 i r)
      = BitVec.ofBool (decide (FloatOps.absf (F := Ideal) (φ := .f32) (a1 (ix4 i 0 r 1)) < Ideal.ofBits .f32 2139095040#32)) := by
    pointwise [Cert.Pre_tame.fn, fn_part1, fn_part2, fn_part3, fn_part4, fn_part5, fn_part6]
  rw [h] at e
  exact isReal_absf _ (ofBool_one _ e.symm)

/-- The weights of the first batch normalisation are real, and its spreads above zero. -/
theorem pre_first (h : (Cert.Pre_tame.fn (F := Ideal) a0 a1 a2 a3 a4 a5 a6 a7 a8 a9 a10 a11 a12 a13).2.2.1 = fun _ => 1#1) (i : Fin 128) :
    IsReal (a2 (ix1 i)) ∧ 0 < spread (a5 (ix1 i)) := by
  have e : (Cert.Pre_tame.fn (F := Ideal) a0 a1 a2 a3 a4 a5 a6 a7 a8 a9 a10 a11 a12 a13).2.2.1 (ix1 i)
      = IntOp.andi (BitVec.ofBool (decide (FloatOps.absf (F := Ideal) (φ := .f32) (a2 (ix1 i)) < Ideal.ofBits .f32 2139095040#32)))
          (BitVec.ofBool (decide ((0 : EReal) < spread (a5 (ix1 i))))) := by
    pointwise [Cert.Pre_tame.fn, fn_part1, fn_part2, fn_part3, fn_part4, fn_part5, fn_part6]
    rfl
  rw [h] at e
  exact (andi_one _ _ e.symm).imp_left (isReal_absf _)

/-- The weights of the second batch normalisation are real, and its spreads above zero. -/
theorem pre_second (h : (Cert.Pre_tame.fn (F := Ideal) a0 a1 a2 a3 a4 a5 a6 a7 a8 a9 a10 a11 a12 a13).2.2.2 = fun _ => 1#1) (k : Fin 64) :
    IsReal (a8 (ix1 k)) ∧ 0 < spread (a11 (ix1 k)) := by
  have e : (Cert.Pre_tame.fn (F := Ideal) a0 a1 a2 a3 a4 a5 a6 a7 a8 a9 a10 a11 a12 a13).2.2.2 (ix1 k)
      = IntOp.andi (BitVec.ofBool (decide (FloatOps.absf (F := Ideal) (φ := .f32) (a8 (ix1 k)) < Ideal.ofBits .f32 2139095040#32)))
          (BitVec.ofBool (decide ((0 : EReal) < spread (a11 (ix1 k))))) := by
    pointwise [Cert.Pre_tame.fn, fn_part1, fn_part2, fn_part3, fn_part4, fn_part5, fn_part6]
    rfl
  rw [h] at e
  exact (andi_one _ _ e.symm).imp_left (isReal_absf _)

/-- The normalised descriptors with a border, in the precondition's own spelling. -/
theorem pre_border (y : FVec Ideal S16x128x8192x1 .f32) (u : Fin 16 → Fin 8192 → Fin 128 → EReal)
    (hy : ∀ n t c, y (ix4 n c t 0) = u n t c) (n : Fin 16) (c : Fin 128) (t : Fin 8194) (q : Fin 3) :
    fn_pad (F := Ideal) y (constantI S_ 32 0#32) (ix4 n c t q) = padded (u n) t c q := by
  pointwise [fn_pad]
  unfold padded
  have h0 : @Eq EReal (FloatOps.sitofp (F := Ideal) .f32 (0#32)) 0 := by
    show (((0#32 : BitVec 32).toInt : ℝ) : EReal) = 0
    norm_num
  have hq := q.isLt
  by_cases h : 1 ≤ (t : ℕ) ∧ (t : ℕ) - 1 < 8192 ∧ (q : ℕ) = 1
  · rw [dif_pos h, dif_pos]
    · obtain rfl : q = 1 := Fin.ext h.2.2
      exact hy n ⟨(t : ℕ) - 1, h.2.1⟩ c
    · omega
  · rw [dif_neg h, dif_neg]
    · exact h0
    · omega

/-- The normalised descriptors, in the precondition's own spelling. -/
theorem pre_image (n : Fin 16) (t : Fin 8192) (c : Fin 128) :
    Host.divf (F := Ideal) (broadcastInDim S16x128x8192x1 ![0, 1, 2] bcast_S16x128x8192_S16x128x8192x1_0_1_2
        (transpose S16x128x8192 [0, 2, 1] a0 transposes_S16x8192x128_S16x128x8192_0_2_1))
      (broadcastInDim S16x128x8192x1 ![0, 1, 2, 3] bcast_S16x1x8192x1_S16x128x8192x1_0_1_2_3
        (maximumf (fn_norm (broadcastInDim S16x128x8192x1 ![0, 1, 2] bcast_S16x128x8192_S16x128x8192x1_0_1_2
          (transpose S16x128x8192 [0, 2, 1] a0 transposes_S16x8192x128_S16x128x8192_0_2_1)))
          (broadcastInDim S16x1x8192x1 ![] bcast_S_S16x1x8192x1 (constant S_ .f32 0x2B8CBCCC#32)))) (ix4 n c t 0)
      = unitDiv (fun i => a0 (ix3 n t i)) c := by
  pointwise [fn_norm]
  simp only [unitDiv, ofBits_eps]

/-- The comparison of the scores with eighty. -/
theorem pre_score (n : Fin 16) (k : Fin 64) (t : Fin 8192) :
    (Cert.Pre_tame.fn (F := Ideal) a0 a1 a2 a3 a4 a5 a6 a7 a8 a9 a10 a11 a12 a13).1 (ix3 n k t)
      = BitVec.ofBool (decide (Scalar.select (counts (a13 (ix1 n)) t)
          ((arrData a0 a1 a2 a3 a4 a5 a6 a7 a8 a9 a10 a11 a12 a13).raw n k t) 0 ≤ ((80 : ℝ) : EReal))) := by
  pointwise [Cert.Pre_tame.fn, fn_part1, fn_part2, fn_part3, fn_part4, fn_part5, fn_part6, fn_where, fn_relu_0, fn_relu]
  have hz : @Eq EReal (id (constant (F := Ideal) S_ .f32 0#32) ix0) 0 := Ideal.ofBits_zero_f32
  simp only [pre_border _ _ (pre_image a0), ofBits_clamp, hz, Data.raw, Data.hidden, Data.filtered, Fin.val_zero, Fin.val_one,
    Fin.val_two, zero_add]
  rfl

/-- The scores of the places that count are at most eighty. -/
theorem pre_le (h : (Cert.Pre_tame.fn (F := Ideal) a0 a1 a2 a3 a4 a5 a6 a7 a8 a9 a10 a11 a12 a13).1 = fun _ => 1#1) (n : Fin 16) (k : Fin 64) (t : Fin 8192) :
    Scalar.select (counts (a13 (ix1 n)) t) ((arrData a0 a1 a2 a3 a4 a5 a6 a7 a8 a9 a10 a11 a12 a13).raw n k t) 0 ≤ ((80 : ℝ) : EReal) := by
  have e := pre_score a0 a1 a2 a3 a4 a5 a6 a7 a8 a9 a10 a11 a12 a13 n k t
  rw [h] at e
  exact ofBool_one _ e.symm

end Cert.Netvlad

end
-- ==== Proof.Equal.lean ====
/-
  The kernel's form and the reference's form of the layer are the same function, under the precondition: the folding of
  the batch normalisations, the clamp of the scores, the soft assignment without a shift, the places that do not count.
-/
module

public import proofs.«01_k».proof.Proof.Data

@[expose] public section

set_option maxRecDepth 16384

noncomputable section

namespace Cert.Netvlad

open Idealize.ShloMosaic

/-- What the precondition says of the arguments. -/
structure Data.Tame (d : Data) : Prop where
  taps : ∀ i r, IsReal (d.taps i r 1)
  first : ∀ i, IsReal (d.g1 i) ∧ 0 < spread (d.v1 i)
  second : ∀ k, IsReal (d.g2 k) ∧ 0 < spread (d.v2 k)
  scores : ∀ n k t, Scalar.select (counts (d.len n) t) (d.raw n k t) 0 ≤ ((80 : ℝ) : EReal)

theorem unit_eq {n : ℕ} (v : Fin n → EReal) : unit v = unitDiv v :=
  funext fun i => scale_eq_div (v i) _ (sum_sq_nonneg v)

theorem isReal_unitDiv {n : ℕ} (v : Fin n → EReal) (i : Fin n) : IsReal (unitDiv v i) := by
  rw [← unit_eq]
  exact isReal_unit v i

theorem isReal_gain {g v : EReal} (h : IsReal g ∧ 0 < spread v) : IsReal (gain g v) :=
  h.1.mul (isReal_rsqrt h.2)

theorem over_eq {g v : EReal} (h : 0 < spread v) : over g v = gain g v := gain_eq g _ h

theorem over_mul {m g v : EReal} (h : 0 < spread v) : over (m * g) v = m * gain g v := by
  rw [over_eq h]
  exact mul_assoc _ _ _

theorem bit_zero {b : BitVec 1} (h : b ≠ 1#1) : b = 0#1 := by
  revert b
  decide

section padding
variable (u : Fin 8192 → Fin 128 → EReal) (t : Fin 8192) (i : Fin 128)

/-- The border's columns hold nothing. -/
theorem padded_side (s : ℕ) (q : Fin 3) (hq : (q : ℕ) ≠ 1) : padded u s i q = 0 :=
  dif_neg fun h => hq h.2.2

theorem padded_before : padded u (((0 : Fin 3) : ℕ) + t) i 1 = before u t i := by
  unfold padded before
  by_cases h : (t : ℕ) < 1
  · rw [dif_pos h, dif_neg]
    rintro ⟨h1, -, -⟩
    simp only [Fin.val_zero] at h1
    omega
  · have ht := t.isLt
    rw [dif_neg h, dif_pos ⟨by simp only [Fin.val_zero]; omega, by simp only [Fin.val_zero]; omega, rfl⟩]
    congr 1
    exact Fin.ext (by simp only [Fin.val_zero]; omega)

theorem padded_here : padded u (((1 : Fin 3) : ℕ) + t) i 1 = u t i := by
  unfold padded
  have ht := t.isLt
  rw [dif_pos ⟨by simp only [Fin.val_one]; omega, by simp only [Fin.val_one]; omega, rfl⟩]
  congr 1
  exact Fin.ext (by simp only [Fin.val_one]; omega)

theorem padded_behind : padded u (((2 : Fin 3) : ℕ) + t) i 1 = behind u t i := by
  unfold padded behind
  by_cases h : (t : ℕ) < 8191
  · rw [dif_pos h, dif_pos ⟨by simp only [Fin.val_two]; omega, by simp only [Fin.val_two]; omega, rfl⟩]
    congr 1
    exact Fin.ext (by simp only [Fin.val_two]; omega)
  · rw [dif_neg h, dif_neg]
    rintro ⟨-, h2, -⟩
    simp only [Fin.val_two] at h2
    omega

end padding

theorem isReal_before {u : Fin 8192 → Fin 128 → EReal} (hu : ∀ t i, IsReal (u t i)) (t : Fin 8192) (i : Fin 128) :
    IsReal (before u t i) := by
  unfold before
  split
  · exact isReal_zero
  · exact hu _ _

theorem isReal_behind {u : Fin 8192 → Fin 128 → EReal} (hu : ∀ t i, IsReal (u t i)) (t : Fin 8192) (i : Fin 128) :
    IsReal (behind u t i) := by
  unfold behind
  split
  · exact hu _ _
  · exact isReal_zero

variable {d : Data}

/-- The smoothing layer: the nine products are three, and the gain folds into the taps. -/
theorem hidden_eq (hd : d.Tame) (n : Fin 16) (t : Fin 8192) (i : Fin 128) :
    smooth (fun t => unit (d.x n t)) (fun i => d.taps i 0 1 * gain (d.g1 i) (d.v1 i))
      (fun i => d.taps i 1 1 * gain (d.g1 i) (d.v1 i)) (fun i => d.taps i 2 1 * gain (d.g1 i) (d.v1 i))
      (fun i => d.b1 i - d.m1 i * gain (d.g1 i) (d.v1 i)) t i = d.hidden n t i := by
  simp only [unit_eq]
  unfold smooth Data.hidden Data.filtered
  have hu : ∀ t i, IsReal ((fun t => unitDiv (d.x n t)) t i) := fun t i => isReal_unitDiv _ _
  simp only [padded_before, padded_here, padded_behind, padded_side _ i _ (0 : Fin 3) (by decide),
    padded_side _ i _ (2 : Fin 3) (by decide), zero_mul, zero_add, add_zero]
  rw [over_mul (hd.first i).2, over_eq (hd.first i).2]
  rw [taps_scale (isReal_before hu t i) (hu t i) (isReal_behind hu t i) (hd.taps i 0) (hd.taps i 1) (hd.taps i 2)
    (isReal_gain (hd.first i))]

/-- A score that counts lies between zero and eighty. -/
theorem raw_le (hd : d.Tame) (n : Fin 16) (k : Fin 64) (t : Fin 8192) (hc : counts (d.len n) t = 1#1) :
    d.raw n k t ≤ ((80 : ℝ) : EReal) := by
  have h := hd.scores n k t
  rw [hc] at h
  exact h

theorem raw_nonneg (n : Fin 16) (k : Fin 64) (t : Fin 8192) : 0 ≤ d.raw n k t := le_max_right _ _

theorem raw_real (hd : d.Tame) (n : Fin 16) (k : Fin 64) (t : Fin 8192) (hc : counts (d.len n) t = 1#1) :
    IsReal (d.raw n k t) := by
  refine isReal_of ?_ ?_
  · exact (lt_of_lt_of_le EReal.bot_lt_zero (raw_nonneg n k t)).ne'
  · exact (lt_of_le_of_lt (raw_le hd n k t hc) (EReal.coe_lt_top 80)).ne

/-- Every masked score is real. -/
theorem masked_real (hd : d.Tame) (n : Fin 16) (k : Fin 64) (t : Fin 8192) : IsReal (d.masked n k t) := by
  unfold Data.masked
  by_cases hc : counts (d.len n) t = 1#1
  · rw [hc]
    exact raw_real hd n k t hc
  · rw [bit_zero hc]
    exact ⟨_, ofBits_fill⟩

/-- The kernel's scores, over its folded weights and biases. -/
def Data.scored (d : Data) (n : Fin 16) : Fin 64 → Fin 8192 → EReal :=
  score (d.hidden n) (d.len n) (fun k i => d.w2 k i * gain (d.g2 k) (d.v2 k))
    (fun k => d.c2 k * gain (d.g2 k) (d.v2 k) + d.b2 k - d.m2 k * gain (d.g2 k) (d.v2 k))

/-- Where a place counts, the kernel's score is the reference's. -/
theorem scored_eq (hd : d.Tame) (n : Fin 16) (k : Fin 64) (t : Fin 8192) (hc : counts (d.len n) t = 1#1) :
    d.scored n k t = d.raw n k t := by
  have hr := raw_le hd n k t hc
  obtain ⟨s, hs⟩ := isReal_gain (hd.second k)
  have e : ∑ c, d.w2 k c * gain (d.g2 k) (d.v2 k) * d.hidden n t c
        + (d.c2 k * gain (d.g2 k) (d.v2 k) + d.b2 k - d.m2 k * gain (d.g2 k) (d.v2 k))
      = (∑ i, d.w2 k i * d.hidden n t i + d.c2 k) * over (d.g2 k) (d.v2 k)
        + (d.b2 k - over (d.m2 k * d.g2 k) (d.v2 k)) := by
    unfold Data.raw at hr
    rw [over_mul (hd.second k).2, over_eq (hd.second k).2, hs] at hr ⊢
    simp only [mul_right_comm _ (s : EReal)]
    refine fold_gain _ _ _ _ s (lt_of_le_of_lt ((le_max_left _ _).trans hr) (EReal.coe_lt_top 80)).ne
  show Scalar.select (counts (d.len n) t) (min (max (∑ c, d.w2 k c * gain (d.g2 k) (d.v2 k) * d.hidden n t c
        + (d.c2 k * gain (d.g2 k) (d.v2 k) + d.b2 k - d.m2 k * gain (d.g2 k) (d.v2 k))) 0) ((80 : ℝ) : EReal)) 0 = _
  rw [e, hc]
  exact min_eq_left hr

/-- Where a place does not count, the kernel's score is zero. -/
theorem scored_off (n : Fin 16) (k : Fin 64) (t : Fin 8192) (hc : counts (d.len n) t ≠ 1#1) : d.scored n k t = 0 := by
  unfold Data.scored score
  rw [bit_zero hc]
  rfl

/-- The soft assignments agree, whatever real number the reference subtracts. -/
theorem assign_eq (hd : d.Tame) (M : Fin 16 → Fin 8192 → EReal) (hM : ∀ n t, IsReal (M n t)) (n : Fin 16) (k : Fin 64)
    (t : Fin 8192) : soft (d.scored n) k t = d.assign M n k t := by
  obtain ⟨a, ha⟩ := hM n t
  unfold soft Data.assign
  by_cases hc : counts (d.len n) t = 1#1
  · choose r hr using fun k => raw_real hd n k t hc
    refine softmax_shift (fun k => d.masked n k t - M n t) (fun k => d.scored n k t) r
      (fun k => (scored_eq hd n k t hc).trans (hr k)) a (fun k => ?_) k
    have e : d.masked n k t = (r k : EReal) := by
      unfold Data.masked
      rw [hc]
      exact hr k
    show d.masked n k t - M n t = _
    rw [e, ha, ← EReal.coe_sub]
  · refine softmax_shift (fun k => d.masked n k t - M n t) (fun k => d.scored n k t) (fun _ => 0)
      (fun k => scored_off n k t hc) (a - (-999999984306749440)) (fun k => ?_) k
    have e : d.masked n k t = ((-999999984306749440 : ℝ) : EReal) := by
      unfold Data.masked
      rw [bit_zero hc]
      exact ofBits_fill
    show d.masked n k t - M n t = _
    rw [e, ha, ← EReal.coe_sub]
    congr 1
    ring

/-- The two forms of the layer are equal. -/
theorem folded_eq (hd : d.Tame) (M : Fin 16 → Fin 8192 → EReal) (hM : ∀ n t, IsReal (M n t)) (n : Fin 16) (k : Fin 64)
    (c : Fin 128) : d.folded n k c = d.stated M n k c := by
  have hh : smooth (fun t => unit (d.x n t)) (fun i => d.taps i 0 1 * gain (d.g1 i) (d.v1 i))
      (fun i => d.taps i 1 1 * gain (d.g1 i) (d.v1 i)) (fun i => d.taps i 2 1 * gain (d.g1 i) (d.v1 i))
      (fun i => d.b1 i - d.m1 i * gain (d.g1 i) (d.v1 i)) = d.hidden n :=
    funext fun t => funext fun i => hidden_eq hd n t i
  have hg : resid (fun t => unit (d.x n t)) (soft (d.scored n)) d.z = d.gathered M n := by
    funext k c
    unfold resid Data.gathered
    simp only [assign_eq hd M hM, unit_eq]
  unfold Data.folded batch
  rw [hh]
  show twice (resid (fun t => unit (d.x n t)) (soft (d.scored n)) d.z) k c = _
  rw [hg]
  unfold twice Data.stated
  simp only [unit_eq]
  exact scale_eq_div _ _ (Finset.sum_nonneg fun i _ => sum_sq_nonneg _)

end Cert.Netvlad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.ReferenceIdeal.Run
public import proofs.«01_k».proof.Proof.KernelRun
public import proofs.«01_k».proof.Proof.RefSoft
public import proofs.«01_k».proof.Proof.PreAt
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two programs' results agree, entry by entry. -/
theorem results_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (e : Cert.Netvlad.refData V0 = Cert.Netvlad.dataOf m c) (hd : (Cert.Netvlad.dataOf m c).Tame)
    (n : Fin 16) (j : Fin 8192) :
    Cert.Netvlad.kernelOut m c (ix2 n j)
      = (Cert.Netvlad.refData V0).stated (Cert.Netvlad.level (Cert.ReferenceIdeal.Value.res_main_v120 V0)) n
          ⟨(j : ℕ) / 128, by omega⟩ ⟨(j : ℕ) % 128, by omega⟩ := by
  rw [Cert.Netvlad.kernelOut_at, e]
  refine Cert.Netvlad.folded_eq hd _ (fun n t => Cert.Netvlad.level_real _ (fun i => ?_) n t) n _ _
  obtain ⟨a, k, l, rfl⟩ : ∃ (a : Fin 16) (k : Fin 64) (l : Fin 8192), i = ix3 a k l := ⟨i 0, i 1, i 2, by
    funext a
    match a with
    | ⟨0, _⟩ => rfl
    | ⟨1, _⟩ => rfl
    | ⟨2, _⟩ => rfl⟩
  have hm : Cert.Netvlad.IsReal ((Cert.Netvlad.refData V0).masked a k l) := by
    rw [e]
    exact Cert.Netvlad.masked_real hd _ _ _
  exact Eq.subst (motive := Cert.Netvlad.IsReal) (Cert.Netvlad.masked_at V0 a k l).symm hm

/-- The precondition, as facts about the arguments as plain functions. -/
theorem tame (m : (ℓ : Loc Cert.KernelIdeal.nD Cert.KernelIdeal.τ Cert.KernelIdeal.sig) → Buf (Elt Ideal) ℓ)
    (h : Cert.Pre_KernelIdeal_tame m) (c : Dev Cert.KernelIdeal.nD) : (Cert.Netvlad.dataOf m c).Tame where
  taps := Cert.Netvlad.pre_taps _ _ _ _ _ _ _ _ _ _ _ _ _ _ (h c).2.1
  first := Cert.Netvlad.pre_first _ _ _ _ _ _ _ _ _ _ _ _ _ _ (h c).2.2.1
  second := Cert.Netvlad.pre_second _ _ _ _ _ _ _ _ _ _ _ _ _ _ (h c).2.2.2
  scores := Cert.Netvlad.pre_le _ _ _ _ _ _ _ _ _ _ _ _ _ _ (h c).1

/-- From memories that agree on the arguments, the two programs' arguments are the same functions. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.Netvlad.refData (StableHlo.launchContents m' c) = Cert.Netvlad.dataOf m c := by
  obtain ⟨h0, h1, h2, h3, h4, h5, h6, h7, h8, h9, h10, h11, h12, h13⟩ := h
  unfold Cert.Netvlad.refData Cert.Netvlad.dataOf
  congr 1
  · exact funext fun n => funext fun t => funext fun i => congrFun h0 (ix3 n t i)
  · exact funext fun i => funext fun r => funext fun q => congrFun h1 (ix4 i 0 r q)
  · exact funext fun i => congrFun h2 (ix1 i)
  · exact funext fun i => congrFun h3 (ix1 i)
  · exact funext fun i => congrFun h4 (ix1 i)
  · exact funext fun i => congrFun h5 (ix1 i)
  · exact funext fun k => funext fun i => congrFun h6 (ix4 k i 0 0)
  · exact funext fun k => congrFun h7 (ix1 k)
  · exact funext fun k => congrFun h8 (ix1 k)
  · exact funext fun k => congrFun h9 (ix1 k)
  · exact funext fun k => congrFun h10 (ix1 k)
  · exact funext fun k => congrFun h11 (ix1 k)
  · exact funext fun k => funext fun i => congrFun h12 (ix2 k i)
  · exact funext fun n => congrFun h13 (ix1 n)

/-- The reference runs, ends with its counters at zero, and keeps its arguments. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0) := by
  refine (θ_run _ _ _).mono (fun r h => ⟨fun c => (h c).2, funext fun s => ?_⟩) (Cert.ReferenceIdeal.Value.run m g)
  match s with
  | (_, .reg i) => exact Fin.elim0 i
  | (_, .dma i) => exact Fin.elim0 i

/-- The value claim: both programs run and leave the same result. -/
theorem algebraic : Cert.algebraic_KernelIdeal_ReferenceIdeal_pre_tame := by
  intro m g m' g' hpre hagree
  refine ⟨fun c => Cert.Netvlad.kernelOut m c, ?_, ?_⟩
  · refine (θ_run _ _ _).mono (fun r h c => ⟨h.1 c, h.2.1 c⟩)
      (θ_run_and (Cert.Netvlad.kernel_out m g) (Cert.KernelIdeal.Gen.frame m g))
  · refine (θ_run _ _ _).mono (fun r h c => ?_) (Cert.ReferenceIdeal.Value.run m' g')
    refine ⟨(h c).1.trans ?_, (h c).2⟩
    funext j
    obtain ⟨n, l, rfl⟩ : ∃ n l, j = ix2 n l := ⟨j 0, j 1, by
      funext a
      match a with
      | ⟨0, _⟩ => rfl
      | ⟨1, _⟩ => rfl⟩
    refine (Cert.Netvlad.reference_at (StableHlo.launchContents m' c) n l).trans ?_
    exact (results_eq m (StableHlo.launchContents m' c) c (data_eq m m' c (hagree c)) (tame m hpre c) n l).symm

theorem claim : Cert.Claim := ⟨Cert.Kernel.Gen.facts, Cert.KernelIdeal.Gen.facts, Cert.ReferenceIdeal.Gen.facts, Cert.Pre_tame.Gen.facts, by
  refine ⟨fun m g _ => Cert.Kernel.Gen.frame m g, fun m g _ => Cert.KernelIdeal.Gen.frame m g,
    fun m g _ => Cert.KernelIdeal.Gen.frame m g, fun m g _ => reference_frame m g, fun m g _ => reference_frame m g,
    IdealRules.named_const.statement Cert.KernelIdeal.κ "eps_norm_sq" .f32 0x179ABE15#32 _ rfl, algebraic⟩⟩

end Cert.Proof

end
